-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![1, 512, 512]⟩ ⟨3, ![32, 512, 512]⟩ 0 32 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x512x512 : Shape := ⟨3, ![1, 512, 512]⟩
abbrev S512x512 : Shape := ⟨2, ![512, 512]⟩
abbrev S32x16x512 : Shape := ⟨3, ![32, 16, 512]⟩
abbrev S16x512 : Shape := ⟨2, ![16, 512]⟩
abbrev S2x32 : Shape := ⟨2, ![2, 32]⟩
abbrev S_ : Shape := ⟨0, ![]⟩
abbrev S1x16x512 : Shape := ⟨3, ![1, 16, 512]⟩
abbrev S1x1 : Shape := ⟨2, ![1, 1]⟩

abbrev nBuf : Space → Nat
  | .hbm => 2
  | .vmem => 6
  | .smem => 0
  | _ => 0

abbrev bufTy : (tb : Table) → Fin (tcTables nBuf tb) → BufTy
  | .hbm, ⟨0, _⟩ => ⟨S1x512x512, .bf16⟩
  | .hbm, ⟨1, _⟩ => ⟨S512x512, .bf16⟩
  | .local _ .vmem, ⟨0, _⟩ => ⟨S1x512x512, .bf16⟩
  | .local _ .vmem, ⟨1, _⟩ => ⟨S512x512, .bf16⟩
  | .local _ .vmem, ⟨2, _⟩ => ⟨S32x16x512, .bf16⟩
  | .local _ .vmem, ⟨3, _⟩ => ⟨S32x16x512, .bf16⟩
  | .local _ .vmem, ⟨4, _⟩ => ⟨S32x16x512, .bf16⟩
  | .local _ .vmem, ⟨5, _⟩ => ⟨S16x512, .bf16⟩
  | _, _ => ⟨S1x512x512, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_2 (i : Nat) : Bool := match i % 128 with
  | 0 => true
  | 1 => true
  | _ => false

abbrev dmaSemScopedAt (i : Nat) : Bool := match i / 128 with
  | 0 => dmaSemScopedAt0_0 i
  | 1 => dmaSemScopedAt0_1 i
  | 2 => dmaSemScopedAt0_2 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 258 → Bool
  | ⟨i, _⟩ => dmaSemScopedAt i

abbrev sig : RefSig :=
  (ofTc nBuf bufTy 1 258 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let v5 : BitVec 32 := Scalar.remsi v4 c32_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v8 : BitVec 32 := Scalar.addi v2 c2_i32
  let c32_i32_4 : BitVec 32 := 32#32
  let v9 : BitVec 32 := Scalar.remsi v8 c32_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v12 : BitVec 32 := Scalar.addi v2 c3_i32
  let c32_i32_8 : BitVec 32 := 32#32
  let v13 : BitVec 32 := Scalar.remsi v12 c32_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 32 := Scalar.addi v2 c4_i32
  let c32_i32_12 : BitVec 32 := 32#32
  let v17 : BitVec 32 := Scalar.remsi v16 c32_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v20 : BitVec 32 := Scalar.addi v2 c5_i32
  let c32_i32_16 : BitVec 32 := 32#32
  let v21 : BitVec 32 := Scalar.remsi v20 c32_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v24 : BitVec 32 := Scalar.addi v2 c6_i32
  let c32_i32_20 : BitVec 32 := 32#32
  let v25 : BitVec 32 := Scalar.remsi v24 c32_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v28 : BitVec 32 := Scalar.addi v2 c7_i32
  let c32_i32_24 : BitVec 32 := 32#32
  let v29 : BitVec 32 := Scalar.remsi v28 c32_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v32 : BitVec 32 := Scalar.addi v2 c8_i32
  let c32_i32_28 : BitVec 32 := 32#32
  let v33 : BitVec 32 := Scalar.remsi v32 c32_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v36 : BitVec 32 := Scalar.addi v2 c9_i32
  let c32_i32_32 : BitVec 32 := 32#32
  let v37 : BitVec 32 := Scalar.remsi v36 c32_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v40 : BitVec 32 := Scalar.addi v2 c10_i32
  let c32_i32_36 : BitVec 32 := 32#32
  let v41 : BitVec 32 := Scalar.remsi v40 c32_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v44 : BitVec 32 := Scalar.addi v2 c11_i32
  let c32_i32_40 : BitVec 32 := 32#32
  let v45 : BitVec 32 := Scalar.remsi v44 c32_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v48 : BitVec 32 := Scalar.addi v2 c12_i32
  let c32_i32_44 : BitVec 32 := 32#32
  let v49 : BitVec 32 := Scalar.remsi v48 c32_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v52 : BitVec 32 := Scalar.addi v2 c13_i32
  let c32_i32_48 : BitVec 32 := 32#32
  let v53 : BitVec 32 := Scalar.remsi v52 c32_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v56 : BitVec 32 := Scalar.addi v2 c14_i32
  let c32_i32_52 : BitVec 32 := 32#32
  let v57 : BitVec 32 := Scalar.remsi v56 c32_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v60 : BitVec 32 := Scalar.addi v2 c15_i32
  let c32_i32_56 : BitVec 32 := 32#32
  let v61 : BitVec 32 := Scalar.remsi v60 c32_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_63 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v64 : BitVec 32 := Scalar.addi v2 c16_i32
  let c32_i32_60 : BitVec 32 := 32#32
  let v65 : BitVec 32 := Scalar.remsi v64 c32_i32_60
  let c1_i32_62 : BitVec 32 := 1#32
  let v66 : BitVec 32 := Scalar.muli v65 c1_i32_62
  let v67 : BitVec 32 := Scalar.addi c0_i32_63 v66
  v67.toNat
def k0_dev17 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v68 : BitVec 32 := Scalar.addi v2 c17_i32
  let c32_i32_64 : BitVec 32 := 32#32
  let v69 : BitVec 32 := Scalar.remsi v68 c32_i32_64
  let c1_i32_66 : BitVec 32 := 1#32
  let v70 : BitVec 32 := Scalar.muli v69 c1_i32_66
  let v71 : BitVec 32 := Scalar.addi c0_i32_67 v70
  v71.toNat
def k0_dev18 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v72 : BitVec 32 := Scalar.addi v2 c18_i32
  let c32_i32_68 : BitVec 32 := 32#32
  let v73 : BitVec 32 := Scalar.remsi v72 c32_i32_68
  let c1_i32_70 : BitVec 32 := 1#32
  let v74 : BitVec 32 := Scalar.muli v73 c1_i32_70
  let v75 : BitVec 32 := Scalar.addi c0_i32_71 v74
  v75.toNat
def k0_dev19 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v76 : BitVec 32 := Scalar.addi v2 c19_i32
  let c32_i32_72 : BitVec 32 := 32#32
  let v77 : BitVec 32 := Scalar.remsi v76 c32_i32_72
  let c1_i32_74 : BitVec 32 := 1#32
  let v78 : BitVec 32 := Scalar.muli v77 c1_i32_74
  let v79 : BitVec 32 := Scalar.addi c0_i32_75 v78
  v79.toNat
def k0_dev20 (d0 : Dev nD) : Nat :=
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v80 : BitVec 32 := Scalar.addi v2 c20_i32
  let c32_i32_76 : BitVec 32 := 32#32
  let v81 : BitVec 32 := Scalar.remsi v80 c32_i32_76
  let c1_i32_78 : BitVec 32 := 1#32
  let v82 : BitVec 32 := Scalar.muli v81 c1_i32_78
  let v83 : BitVec 32 := Scalar.addi c0_i32_79 v82
  v83.toNat
def k0_dev21 (d0 : Dev nD) : Nat :=
  let c0_i32_83 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v84 : BitVec 32 := Scalar.addi v2 c21_i32
  let c32_i32_80 : BitVec 32 := 32#32
  let v85 : BitVec 32 := Scalar.remsi v84 c32_i32_80
  let c1_i32_82 : BitVec 32 := 1#32
  let v86 : BitVec 32 := Scalar.muli v85 c1_i32_82
  let v87 : BitVec 32 := Scalar.addi c0_i32_83 v86
  v87.toNat
def k0_dev22 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v88 : BitVec 32 := Scalar.addi v2 c22_i32
  let c32_i32_84 : BitVec 32 := 32#32
  let v89 : BitVec 32 := Scalar.remsi v88 c32_i32_84
  let c1_i32_86 : BitVec 32 := 1#32
  let v90 : BitVec 32 := Scalar.muli v89 c1_i32_86
  let v91 : BitVec 32 := Scalar.addi c0_i32_87 v90
  v91.toNat
def k0_dev23 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v92 : BitVec 32 := Scalar.addi v2 c23_i32
  let c32_i32_88 : BitVec 32 := 32#32
  let v93 : BitVec 32 := Scalar.remsi v92 c32_i32_88
  let c1_i32_90 : BitVec 32 := 1#32
  let v94 : BitVec 32 := Scalar.muli v93 c1_i32_90
  let v95 : BitVec 32 := Scalar.addi c0_i32_91 v94
  v95.toNat
def k0_dev24 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v96 : BitVec 32 := Scalar.addi v2 c24_i32
  let c32_i32_92 : BitVec 32 := 32#32
  let v97 : BitVec 32 := Scalar.remsi v96 c32_i32_92
  let c1_i32_94 : BitVec 32 := 1#32
  let v98 : BitVec 32 := Scalar.muli v97 c1_i32_94
  let v99 : BitVec 32 := Scalar.addi c0_i32_95 v98
  v99.toNat
def k0_dev25 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v100 : BitVec 32 := Scalar.addi v2 c25_i32
  let c32_i32_96 : BitVec 32 := 32#32
  let v101 : BitVec 32 := Scalar.remsi v100 c32_i32_96
  let c1_i32_98 : BitVec 32 := 1#32
  let v102 : BitVec 32 := Scalar.muli v101 c1_i32_98
  let v103 : BitVec 32 := Scalar.addi c0_i32_99 v102
  v103.toNat
def k0_dev26 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v104 : BitVec 32 := Scalar.addi v2 c26_i32
  let c32_i32_100 : BitVec 32 := 32#32
  let v105 : BitVec 32 := Scalar.remsi v104 c32_i32_100
  let c1_i32_102 : BitVec 32 := 1#32
  let v106 : BitVec 32 := Scalar.muli v105 c1_i32_102
  let v107 : BitVec 32 := Scalar.addi c0_i32_103 v106
  v107.toNat
def k0_dev27 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v108 : BitVec 32 := Scalar.addi v2 c27_i32
  let c32_i32_104 : BitVec 32 := 32#32
  let v109 : BitVec 32 := Scalar.remsi v108 c32_i32_104
  let c1_i32_106 : BitVec 32 := 1#32
  let v110 : BitVec 32 := Scalar.muli v109 c1_i32_106
  let v111 : BitVec 32 := Scalar.addi c0_i32_107 v110
  v111.toNat
def k0_dev28 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v112 : BitVec 32 := Scalar.addi v2 c28_i32
  let c32_i32_108 : BitVec 32 := 32#32
  let v113 : BitVec 32 := Scalar.remsi v112 c32_i32_108
  let c1_i32_110 : BitVec 32 := 1#32
  let v114 : BitVec 32 := Scalar.muli v113 c1_i32_110
  let v115 : BitVec 32 := Scalar.addi c0_i32_111 v114
  v115.toNat
def k0_dev29 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v116 : BitVec 32 := Scalar.addi v2 c29_i32
  let c32_i32_112 : BitVec 32 := 32#32
  let v117 : BitVec 32 := Scalar.remsi v116 c32_i32_112
  let c1_i32_114 : BitVec 32 := 1#32
  let v118 : BitVec 32 := Scalar.muli v117 c1_i32_114
  let v119 : BitVec 32 := Scalar.addi c0_i32_115 v118
  v119.toNat
def k0_dev30 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v120 : BitVec 32 := Scalar.addi v2 c30_i32
  let c32_i32_116 : BitVec 32 := 32#32
  let v121 : BitVec 32 := Scalar.remsi v120 c32_i32_116
  let c1_i32_118 : BitVec 32 := 1#32
  let v122 : BitVec 32 := Scalar.muli v121 c1_i32_118
  let v123 : BitVec 32 := Scalar.addi c0_i32_119 v122
  v123.toNat
def k0_dev31 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v124 : BitVec 32 := Scalar.addi v2 c31_i32
  let c32_i32_120 : BitVec 32 := 32#32
  let v125 : BitVec 32 := Scalar.remsi v124 c32_i32_120
  let c1_i32_122 : BitVec 32 := 1#32
  let v126 : BitVec 32 := Scalar.muli v125 c1_i32_122
  let v127 : BitVec 32 := Scalar.addi c0_i32_123 v126
  v127.toNat
def k0_off1 (d0 : Dev nD) (c1_i32_125 : BitVec 32) : Fin 3 → Nat :=
  let c0 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v128 : BitVec 32 := Scalar.addi v2 c1_i32_125
  let c32_i32_126 : BitVec 32 := 32#32
  let v129 : BitVec 32 := Scalar.remsi v128 c32_i32_126
  let c16_i32_127 : BitVec 32 := 16#32
  let v130 : BitVec 32 := Scalar.muli v129 c16_i32_127
  let v131 : Index := Scalar.indexCast v130
  let c0_128 : Index := 0#32
  ![0, v131.toNat, 0]
def k0_dev32 (d0 : Dev nD) : Nat :=
  let c0_i32_138 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_125 : BitVec 32 := 1#32
  let v128 : BitVec 32 := Scalar.addi v2 c1_i32_125
  let c32_i32_126 : BitVec 32 := 32#32
  let v129 : BitVec 32 := Scalar.remsi v128 c32_i32_126
  let c1_i32_137 : BitVec 32 := 1#32
  let v137 : BitVec 32 := Scalar.muli v129 c1_i32_137
  let v138 : BitVec 32 := Scalar.addi c0_i32_138 v137
  v138.toNat
def k0_dev33 (d0 : Dev nD) : Nat :=
  let c0_i32_157 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_143 : BitVec 32 := 2#32
  let v147 : BitVec 32 := Scalar.addi v2 c2_i32_143
  let c32_i32_144 : BitVec 32 := 32#32
  let v148 : BitVec 32 := Scalar.remsi v147 c32_i32_144
  let c1_i32_156 : BitVec 32 := 1#32
  let v156 : BitVec 32 := Scalar.muli v148 c1_i32_156
  let v157 : BitVec 32 := Scalar.addi c0_i32_157 v156
  v157.toNat
def k0_dev34 (d0 : Dev nD) : Nat :=
  let c0_i32_176 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_162 : BitVec 32 := 3#32
  let v166 : BitVec 32 := Scalar.addi v2 c3_i32_162
  let c32_i32_163 : BitVec 32 := 32#32
  let v167 : BitVec 32 := Scalar.remsi v166 c32_i32_163
  let c1_i32_175 : BitVec 32 := 1#32
  let v175 : BitVec 32 := Scalar.muli v167 c1_i32_175
  let v176 : BitVec 32 := Scalar.addi c0_i32_176 v175
  v176.toNat
def k0_dev35 (d0 : Dev nD) : Nat :=
  let c0_i32_195 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_181 : BitVec 32 := 4#32
  let v185 : BitVec 32 := Scalar.addi v2 c4_i32_181
  let c32_i32_182 : BitVec 32 := 32#32
  let v186 : BitVec 32 := Scalar.remsi v185 c32_i32_182
  let c1_i32_194 : BitVec 32 := 1#32
  let v194 : BitVec 32 := Scalar.muli v186 c1_i32_194
  let v195 : BitVec 32 := Scalar.addi c0_i32_195 v194
  v195.toNat
def k0_dev36 (d0 : Dev nD) : Nat :=
  let c0_i32_214 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_200 : BitVec 32 := 5#32
  let v204 : BitVec 32 := Scalar.addi v2 c5_i32_200
  let c32_i32_201 : BitVec 32 := 32#32
  let v205 : BitVec 32 := Scalar.remsi v204 c32_i32_201
  let c1_i32_213 : BitVec 32 := 1#32
  let v213 : BitVec 32 := Scalar.muli v205 c1_i32_213
  let v214 : BitVec 32 := Scalar.addi c0_i32_214 v213
  v214.toNat
def k0_dev37 (d0 : Dev nD) : Nat :=
  let c0_i32_233 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_219 : BitVec 32 := 6#32
  let v223 : BitVec 32 := Scalar.addi v2 c6_i32_219
  let c32_i32_220 : BitVec 32 := 32#32
  let v224 : BitVec 32 := Scalar.remsi v223 c32_i32_220
  let c1_i32_232 : BitVec 32 := 1#32
  let v232 : BitVec 32 := Scalar.muli v224 c1_i32_232
  let v233 : BitVec 32 := Scalar.addi c0_i32_233 v232
  v233.toNat
def k0_dev38 (d0 : Dev nD) : Nat :=
  let c0_i32_252 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_238 : BitVec 32 := 7#32
  let v242 : BitVec 32 := Scalar.addi v2 c7_i32_238
  let c32_i32_239 : BitVec 32 := 32#32
  let v243 : BitVec 32 := Scalar.remsi v242 c32_i32_239
  let c1_i32_251 : BitVec 32 := 1#32
  let v251 : BitVec 32 := Scalar.muli v243 c1_i32_251
  let v252 : BitVec 32 := Scalar.addi c0_i32_252 v251
  v252.toNat
def k0_dev39 (d0 : Dev nD) : Nat :=
  let c0_i32_271 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_257 : BitVec 32 := 8#32
  let v261 : BitVec 32 := Scalar.addi v2 c8_i32_257
  let c32_i32_258 : BitVec 32 := 32#32
  let v262 : BitVec 32 := Scalar.remsi v261 c32_i32_258
  let c1_i32_270 : BitVec 32 := 1#32
  let v270 : BitVec 32 := Scalar.muli v262 c1_i32_270
  let v271 : BitVec 32 := Scalar.addi c0_i32_271 v270
  v271.toNat
def k0_dev40 (d0 : Dev nD) : Nat :=
  let c0_i32_290 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_276 : BitVec 32 := 9#32
  let v280 : BitVec 32 := Scalar.addi v2 c9_i32_276
  let c32_i32_277 : BitVec 32 := 32#32
  let v281 : BitVec 32 := Scalar.remsi v280 c32_i32_277
  let c1_i32_289 : BitVec 32 := 1#32
  let v289 : BitVec 32 := Scalar.muli v281 c1_i32_289
  let v290 : BitVec 32 := Scalar.addi c0_i32_290 v289
  v290.toNat
def k0_dev41 (d0 : Dev nD) : Nat :=
  let c0_i32_309 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_295 : BitVec 32 := 10#32
  let v299 : BitVec 32 := Scalar.addi v2 c10_i32_295
  let c32_i32_296 : BitVec 32 := 32#32
  let v300 : BitVec 32 := Scalar.remsi v299 c32_i32_296
  let c1_i32_308 : BitVec 32 := 1#32
  let v308 : BitVec 32 := Scalar.muli v300 c1_i32_308
  let v309 : BitVec 32 := Scalar.addi c0_i32_309 v308
  v309.toNat
def k0_dev42 (d0 : Dev nD) : Nat :=
  let c0_i32_328 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_314 : BitVec 32 := 11#32
  let v318 : BitVec 32 := Scalar.addi v2 c11_i32_314
  let c32_i32_315 : BitVec 32 := 32#32
  let v319 : BitVec 32 := Scalar.remsi v318 c32_i32_315
  let c1_i32_327 : BitVec 32 := 1#32
  let v327 : BitVec 32 := Scalar.muli v319 c1_i32_327
  let v328 : BitVec 32 := Scalar.addi c0_i32_328 v327
  v328.toNat
def k0_dev43 (d0 : Dev nD) : Nat :=
  let c0_i32_347 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_333 : BitVec 32 := 12#32
  let v337 : BitVec 32 := Scalar.addi v2 c12_i32_333
  let c32_i32_334 : BitVec 32 := 32#32
  let v338 : BitVec 32 := Scalar.remsi v337 c32_i32_334
  let c1_i32_346 : BitVec 32 := 1#32
  let v346 : BitVec 32 := Scalar.muli v338 c1_i32_346
  let v347 : BitVec 32 := Scalar.addi c0_i32_347 v346
  v347.toNat
def k0_dev44 (d0 : Dev nD) : Nat :=
  let c0_i32_366 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_352 : BitVec 32 := 13#32
  let v356 : BitVec 32 := Scalar.addi v2 c13_i32_352
  let c32_i32_353 : BitVec 32 := 32#32
  let v357 : BitVec 32 := Scalar.remsi v356 c32_i32_353
  let c1_i32_365 : BitVec 32 := 1#32
  let v365 : BitVec 32 := Scalar.muli v357 c1_i32_365
  let v366 : BitVec 32 := Scalar.addi c0_i32_366 v365
  v366.toNat
def k0_dev45 (d0 : Dev nD) : Nat :=
  let c0_i32_385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_371 : BitVec 32 := 14#32
  let v375 : BitVec 32 := Scalar.addi v2 c14_i32_371
  let c32_i32_372 : BitVec 32 := 32#32
  let v376 : BitVec 32 := Scalar.remsi v375 c32_i32_372
  let c1_i32_384 : BitVec 32 := 1#32
  let v384 : BitVec 32 := Scalar.muli v376 c1_i32_384
  let v385 : BitVec 32 := Scalar.addi c0_i32_385 v384
  v385.toNat
def k0_dev46 (d0 : Dev nD) : Nat :=
  let c0_i32_404 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_390 : BitVec 32 := 15#32
  let v394 : BitVec 32 := Scalar.addi v2 c15_i32_390
  let c32_i32_391 : BitVec 32 := 32#32
  let v395 : BitVec 32 := Scalar.remsi v394 c32_i32_391
  let c1_i32_403 : BitVec 32 := 1#32
  let v403 : BitVec 32 := Scalar.muli v395 c1_i32_403
  let v404 : BitVec 32 := Scalar.addi c0_i32_404 v403
  v404.toNat
def k0_dev47 (d0 : Dev nD) : Nat :=
  let c0_i32_423 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_409 : BitVec 32 := 16#32
  let v413 : BitVec 32 := Scalar.addi v2 c16_i32_409
  let c32_i32_410 : BitVec 32 := 32#32
  let v414 : BitVec 32 := Scalar.remsi v413 c32_i32_410
  let c1_i32_422 : BitVec 32 := 1#32
  let v422 : BitVec 32 := Scalar.muli v414 c1_i32_422
  let v423 : BitVec 32 := Scalar.addi c0_i32_423 v422
  v423.toNat
def k0_dev48 (d0 : Dev nD) : Nat :=
  let c0_i32_442 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_428 : BitVec 32 := 17#32
  let v432 : BitVec 32 := Scalar.addi v2 c17_i32_428
  let c32_i32_429 : BitVec 32 := 32#32
  let v433 : BitVec 32 := Scalar.remsi v432 c32_i32_429
  let c1_i32_441 : BitVec 32 := 1#32
  let v441 : BitVec 32 := Scalar.muli v433 c1_i32_441
  let v442 : BitVec 32 := Scalar.addi c0_i32_442 v441
  v442.toNat
def k0_dev49 (d0 : Dev nD) : Nat :=
  let c0_i32_461 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_447 : BitVec 32 := 18#32
  let v451 : BitVec 32 := Scalar.addi v2 c18_i32_447
  let c32_i32_448 : BitVec 32 := 32#32
  let v452 : BitVec 32 := Scalar.remsi v451 c32_i32_448
  let c1_i32_460 : BitVec 32 := 1#32
  let v460 : BitVec 32 := Scalar.muli v452 c1_i32_460
  let v461 : BitVec 32 := Scalar.addi c0_i32_461 v460
  v461.toNat
def k0_dev50 (d0 : Dev nD) : Nat :=
  let c0_i32_480 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_466 : BitVec 32 := 19#32
  let v470 : BitVec 32 := Scalar.addi v2 c19_i32_466
  let c32_i32_467 : BitVec 32 := 32#32
  let v471 : BitVec 32 := Scalar.remsi v470 c32_i32_467
  let c1_i32_479 : BitVec 32 := 1#32
  let v479 : BitVec 32 := Scalar.muli v471 c1_i32_479
  let v480 : BitVec 32 := Scalar.addi c0_i32_480 v479
  v480.toNat
def k0_dev51 (d0 : Dev nD) : Nat :=
  let c0_i32_499 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_485 : BitVec 32 := 20#32
  let v489 : BitVec 32 := Scalar.addi v2 c20_i32_485
  let c32_i32_486 : BitVec 32 := 32#32
  let v490 : BitVec 32 := Scalar.remsi v489 c32_i32_486
  let c1_i32_498 : BitVec 32 := 1#32
  let v498 : BitVec 32 := Scalar.muli v490 c1_i32_498
  let v499 : BitVec 32 := Scalar.addi c0_i32_499 v498
  v499.toNat
def k0_dev52 (d0 : Dev nD) : Nat :=
  let c0_i32_518 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_504 : BitVec 32 := 21#32
  let v508 : BitVec 32 := Scalar.addi v2 c21_i32_504
  let c32_i32_505 : BitVec 32 := 32#32
  let v509 : BitVec 32 := Scalar.remsi v508 c32_i32_505
  let c1_i32_517 : BitVec 32 := 1#32
  let v517 : BitVec 32 := Scalar.muli v509 c1_i32_517
  let v518 : BitVec 32 := Scalar.addi c0_i32_518 v517
  v518.toNat
def k0_dev53 (d0 : Dev nD) : Nat :=
  let c0_i32_537 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_523 : BitVec 32 := 22#32
  let v527 : BitVec 32 := Scalar.addi v2 c22_i32_523
  let c32_i32_524 : BitVec 32 := 32#32
  let v528 : BitVec 32 := Scalar.remsi v527 c32_i32_524
  let c1_i32_536 : BitVec 32 := 1#32
  let v536 : BitVec 32 := Scalar.muli v528 c1_i32_536
  let v537 : BitVec 32 := Scalar.addi c0_i32_537 v536
  v537.toNat
def k0_dev54 (d0 : Dev nD) : Nat :=
  let c0_i32_556 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_542 : BitVec 32 := 23#32
  let v546 : BitVec 32 := Scalar.addi v2 c23_i32_542
  let c32_i32_543 : BitVec 32 := 32#32
  let v547 : BitVec 32 := Scalar.remsi v546 c32_i32_543
  let c1_i32_555 : BitVec 32 := 1#32
  let v555 : BitVec 32 := Scalar.muli v547 c1_i32_555
  let v556 : BitVec 32 := Scalar.addi c0_i32_556 v555
  v556.toNat
def k0_dev55 (d0 : Dev nD) : Nat :=
  let c0_i32_575 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_561 : BitVec 32 := 24#32
  let v565 : BitVec 32 := Scalar.addi v2 c24_i32_561
  let c32_i32_562 : BitVec 32 := 32#32
  let v566 : BitVec 32 := Scalar.remsi v565 c32_i32_562
  let c1_i32_574 : BitVec 32 := 1#32
  let v574 : BitVec 32 := Scalar.muli v566 c1_i32_574
  let v575 : BitVec 32 := Scalar.addi c0_i32_575 v574
  v575.toNat
def k0_dev56 (d0 : Dev nD) : Nat :=
  let c0_i32_594 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_580 : BitVec 32 := 25#32
  let v584 : BitVec 32 := Scalar.addi v2 c25_i32_580
  let c32_i32_581 : BitVec 32 := 32#32
  let v585 : BitVec 32 := Scalar.remsi v584 c32_i32_581
  let c1_i32_593 : BitVec 32 := 1#32
  let v593 : BitVec 32 := Scalar.muli v585 c1_i32_593
  let v594 : BitVec 32 := Scalar.addi c0_i32_594 v593
  v594.toNat
def k0_dev57 (d0 : Dev nD) : Nat :=
  let c0_i32_613 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_599 : BitVec 32 := 26#32
  let v603 : BitVec 32 := Scalar.addi v2 c26_i32_599
  let c32_i32_600 : BitVec 32 := 32#32
  let v604 : BitVec 32 := Scalar.remsi v603 c32_i32_600
  let c1_i32_612 : BitVec 32 := 1#32
  let v612 : BitVec 32 := Scalar.muli v604 c1_i32_612
  let v613 : BitVec 32 := Scalar.addi c0_i32_613 v612
  v613.toNat
def k0_dev58 (d0 : Dev nD) : Nat :=
  let c0_i32_632 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_618 : BitVec 32 := 27#32
  let v622 : BitVec 32 := Scalar.addi v2 c27_i32_618
  let c32_i32_619 : BitVec 32 := 32#32
  let v623 : BitVec 32 := Scalar.remsi v622 c32_i32_619
  let c1_i32_631 : BitVec 32 := 1#32
  let v631 : BitVec 32 := Scalar.muli v623 c1_i32_631
  let v632 : BitVec 32 := Scalar.addi c0_i32_632 v631
  v632.toNat
def k0_dev59 (d0 : Dev nD) : Nat :=
  let c0_i32_651 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_637 : BitVec 32 := 28#32
  let v641 : BitVec 32 := Scalar.addi v2 c28_i32_637
  let c32_i32_638 : BitVec 32 := 32#32
  let v642 : BitVec 32 := Scalar.remsi v641 c32_i32_638
  let c1_i32_650 : BitVec 32 := 1#32
  let v650 : BitVec 32 := Scalar.muli v642 c1_i32_650
  let v651 : BitVec 32 := Scalar.addi c0_i32_651 v650
  v651.toNat
def k0_dev60 (d0 : Dev nD) : Nat :=
  let c0_i32_670 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_656 : BitVec 32 := 29#32
  let v660 : BitVec 32 := Scalar.addi v2 c29_i32_656
  let c32_i32_657 : BitVec 32 := 32#32
  let v661 : BitVec 32 := Scalar.remsi v660 c32_i32_657
  let c1_i32_669 : BitVec 32 := 1#32
  let v669 : BitVec 32 := Scalar.muli v661 c1_i32_669
  let v670 : BitVec 32 := Scalar.addi c0_i32_670 v669
  v670.toNat
def k0_dev61 (d0 : Dev nD) : Nat :=
  let c0_i32_689 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_675 : BitVec 32 := 30#32
  let v679 : BitVec 32 := Scalar.addi v2 c30_i32_675
  let c32_i32_676 : BitVec 32 := 32#32
  let v680 : BitVec 32 := Scalar.remsi v679 c32_i32_676
  let c1_i32_688 : BitVec 32 := 1#32
  let v688 : BitVec 32 := Scalar.muli v680 c1_i32_688
  let v689 : BitVec 32 := Scalar.addi c0_i32_689 v688
  v689.toNat
def k0_dev62 (d0 : Dev nD) : Nat :=
  let c0_i32_708 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_694 : BitVec 32 := 31#32
  let v698 : BitVec 32 := Scalar.addi v2 c31_i32_694
  let c32_i32_695 : BitVec 32 := 32#32
  let v699 : BitVec 32 := Scalar.remsi v698 c32_i32_695
  let c1_i32_707 : BitVec 32 := 1#32
  let v707 : BitVec 32 := Scalar.muli v699 c1_i32_707
  let v708 : BitVec 32 := Scalar.addi c0_i32_708 v707
  v708.toNat
def k0_off2 (d0 : Dev nD) : Fin 3 → Nat :=
  let c0_714 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_713 : BitVec 32 := 16#32
  let v717 : BitVec 32 := Scalar.muli v2 c16_i32_713
  let v718 : Index := Scalar.indexCast v717
  let c0_715 : Index := 0#32
  ![0, v718.toNat, 0]
def k0_dev63 (d0 : Dev nD) : Nat :=
  let c0_i32_1191 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1183 : BitVec 32 := 1#32
  let v1098 : BitVec 32 := Scalar.addi v2 c1_i32_1183
  let c32_i32_1184 : BitVec 32 := 32#32
  let v1099 : BitVec 32 := Scalar.remsi v1098 c32_i32_1184
  let c1_i32_1190 : BitVec 32 := 1#32
  let v1100 : BitVec 32 := Scalar.muli v1099 c1_i32_1190
  let v1101 : BitVec 32 := Scalar.addi c0_i32_1191 v1100
  v1101.toNat
def k0_dev64 (d0 : Dev nD) : Nat :=
  let c0_i32_1202 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1194 : BitVec 32 := 2#32
  let v1108 : BitVec 32 := Scalar.addi v2 c2_i32_1194
  let c32_i32_1195 : BitVec 32 := 32#32
  let v1109 : BitVec 32 := Scalar.remsi v1108 c32_i32_1195
  let c1_i32_1201 : BitVec 32 := 1#32
  let v1110 : BitVec 32 := Scalar.muli v1109 c1_i32_1201
  let v1111 : BitVec 32 := Scalar.addi c0_i32_1202 v1110
  v1111.toNat
def k0_dev65 (d0 : Dev nD) : Nat :=
  let c0_i32_1213 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1205 : BitVec 32 := 3#32
  let v1118 : BitVec 32 := Scalar.addi v2 c3_i32_1205
  let c32_i32_1206 : BitVec 32 := 32#32
  let v1119 : BitVec 32 := Scalar.remsi v1118 c32_i32_1206
  let c1_i32_1212 : BitVec 32 := 1#32
  let v1120 : BitVec 32 := Scalar.muli v1119 c1_i32_1212
  let v1121 : BitVec 32 := Scalar.addi c0_i32_1213 v1120
  v1121.toNat
def k0_dev66 (d0 : Dev nD) : Nat :=
  let c0_i32_1224 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1216 : BitVec 32 := 4#32
  let v1128 : BitVec 32 := Scalar.addi v2 c4_i32_1216
  let c32_i32_1217 : BitVec 32 := 32#32
  let v1129 : BitVec 32 := Scalar.remsi v1128 c32_i32_1217
  let c1_i32_1223 : BitVec 32 := 1#32
  let v1130 : BitVec 32 := Scalar.muli v1129 c1_i32_1223
  let v1131 : BitVec 32 := Scalar.addi c0_i32_1224 v1130
  v1131.toNat
def k0_dev67 (d0 : Dev nD) : Nat :=
  let c0_i32_1235 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1227 : BitVec 32 := 5#32
  let v1138 : BitVec 32 := Scalar.addi v2 c5_i32_1227
  let c32_i32_1228 : BitVec 32 := 32#32
  let v1139 : BitVec 32 := Scalar.remsi v1138 c32_i32_1228
  let c1_i32_1234 : BitVec 32 := 1#32
  let v1140 : BitVec 32 := Scalar.muli v1139 c1_i32_1234
  let v1141 : BitVec 32 := Scalar.addi c0_i32_1235 v1140
  v1141.toNat
def k0_dev68 (d0 : Dev nD) : Nat :=
  let c0_i32_1246 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1238 : BitVec 32 := 6#32
  let v1148 : BitVec 32 := Scalar.addi v2 c6_i32_1238
  let c32_i32_1239 : BitVec 32 := 32#32
  let v1149 : BitVec 32 := Scalar.remsi v1148 c32_i32_1239
  let c1_i32_1245 : BitVec 32 := 1#32
  let v1150 : BitVec 32 := Scalar.muli v1149 c1_i32_1245
  let v1151 : BitVec 32 := Scalar.addi c0_i32_1246 v1150
  v1151.toNat
def k0_dev69 (d0 : Dev nD) : Nat :=
  let c0_i32_1257 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1249 : BitVec 32 := 7#32
  let v1158 : BitVec 32 := Scalar.addi v2 c7_i32_1249
  let c32_i32_1250 : BitVec 32 := 32#32
  let v1159 : BitVec 32 := Scalar.remsi v1158 c32_i32_1250
  let c1_i32_1256 : BitVec 32 := 1#32
  let v1160 : BitVec 32 := Scalar.muli v1159 c1_i32_1256
  let v1161 : BitVec 32 := Scalar.addi c0_i32_1257 v1160
  v1161.toNat
def k0_dev70 (d0 : Dev nD) : Nat :=
  let c0_i32_1268 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1260 : BitVec 32 := 8#32
  let v1168 : BitVec 32 := Scalar.addi v2 c8_i32_1260
  let c32_i32_1261 : BitVec 32 := 32#32
  let v1169 : BitVec 32 := Scalar.remsi v1168 c32_i32_1261
  let c1_i32_1267 : BitVec 32 := 1#32
  let v1170 : BitVec 32 := Scalar.muli v1169 c1_i32_1267
  let v1171 : BitVec 32 := Scalar.addi c0_i32_1268 v1170
  v1171.toNat
def k0_dev71 (d0 : Dev nD) : Nat :=
  let c0_i32_1279 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1271 : BitVec 32 := 9#32
  let v1178 : BitVec 32 := Scalar.addi v2 c9_i32_1271
  let c32_i32_1272 : BitVec 32 := 32#32
  let v1179 : BitVec 32 := Scalar.remsi v1178 c32_i32_1272
  let c1_i32_1278 : BitVec 32 := 1#32
  let v1180 : BitVec 32 := Scalar.muli v1179 c1_i32_1278
  let v1181 : BitVec 32 := Scalar.addi c0_i32_1279 v1180
  v1181.toNat
def k0_dev72 (d0 : Dev nD) : Nat :=
  let c0_i32_1290 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1282 : BitVec 32 := 10#32
  let v1188 : BitVec 32 := Scalar.addi v2 c10_i32_1282
  let c32_i32_1283 : BitVec 32 := 32#32
  let v1189 : BitVec 32 := Scalar.remsi v1188 c32_i32_1283
  let c1_i32_1289 : BitVec 32 := 1#32
  let v1190 : BitVec 32 := Scalar.muli v1189 c1_i32_1289
  let v1191 : BitVec 32 := Scalar.addi c0_i32_1290 v1190
  v1191.toNat
def k0_dev73 (d0 : Dev nD) : Nat :=
  let c0_i32_1301 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1293 : BitVec 32 := 11#32
  let v1198 : BitVec 32 := Scalar.addi v2 c11_i32_1293
  let c32_i32_1294 : BitVec 32 := 32#32
  let v1199 : BitVec 32 := Scalar.remsi v1198 c32_i32_1294
  let c1_i32_1300 : BitVec 32 := 1#32
  let v1200 : BitVec 32 := Scalar.muli v1199 c1_i32_1300
  let v1201 : BitVec 32 := Scalar.addi c0_i32_1301 v1200
  v1201.toNat
def k0_dev74 (d0 : Dev nD) : Nat :=
  let c0_i32_1312 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1304 : BitVec 32 := 12#32
  let v1208 : BitVec 32 := Scalar.addi v2 c12_i32_1304
  let c32_i32_1305 : BitVec 32 := 32#32
  let v1209 : BitVec 32 := Scalar.remsi v1208 c32_i32_1305
  let c1_i32_1311 : BitVec 32 := 1#32
  let v1210 : BitVec 32 := Scalar.muli v1209 c1_i32_1311
  let v1211 : BitVec 32 := Scalar.addi c0_i32_1312 v1210
  v1211.toNat
def k0_dev75 (d0 : Dev nD) : Nat :=
  let c0_i32_1323 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1315 : BitVec 32 := 13#32
  let v1218 : BitVec 32 := Scalar.addi v2 c13_i32_1315
  let c32_i32_1316 : BitVec 32 := 32#32
  let v1219 : BitVec 32 := Scalar.remsi v1218 c32_i32_1316
  let c1_i32_1322 : BitVec 32 := 1#32
  let v1220 : BitVec 32 := Scalar.muli v1219 c1_i32_1322
  let v1221 : BitVec 32 := Scalar.addi c0_i32_1323 v1220
  v1221.toNat
def k0_dev76 (d0 : Dev nD) : Nat :=
  let c0_i32_1334 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1326 : BitVec 32 := 14#32
  let v1228 : BitVec 32 := Scalar.addi v2 c14_i32_1326
  let c32_i32_1327 : BitVec 32 := 32#32
  let v1229 : BitVec 32 := Scalar.remsi v1228 c32_i32_1327
  let c1_i32_1333 : BitVec 32 := 1#32
  let v1230 : BitVec 32 := Scalar.muli v1229 c1_i32_1333
  let v1231 : BitVec 32 := Scalar.addi c0_i32_1334 v1230
  v1231.toNat
def k0_dev77 (d0 : Dev nD) : Nat :=
  let c0_i32_1345 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1337 : BitVec 32 := 15#32
  let v1238 : BitVec 32 := Scalar.addi v2 c15_i32_1337
  let c32_i32_1338 : BitVec 32 := 32#32
  let v1239 : BitVec 32 := Scalar.remsi v1238 c32_i32_1338
  let c1_i32_1344 : BitVec 32 := 1#32
  let v1240 : BitVec 32 := Scalar.muli v1239 c1_i32_1344
  let v1241 : BitVec 32 := Scalar.addi c0_i32_1345 v1240
  v1241.toNat
def k0_dev78 (d0 : Dev nD) : Nat :=
  let c0_i32_1356 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1348 : BitVec 32 := 16#32
  let v1248 : BitVec 32 := Scalar.addi v2 c16_i32_1348
  let c32_i32_1349 : BitVec 32 := 32#32
  let v1249 : BitVec 32 := Scalar.remsi v1248 c32_i32_1349
  let c1_i32_1355 : BitVec 32 := 1#32
  let v1250 : BitVec 32 := Scalar.muli v1249 c1_i32_1355
  let v1251 : BitVec 32 := Scalar.addi c0_i32_1356 v1250
  v1251.toNat
def k0_dev79 (d0 : Dev nD) : Nat :=
  let c0_i32_1367 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1359 : BitVec 32 := 17#32
  let v1258 : BitVec 32 := Scalar.addi v2 c17_i32_1359
  let c32_i32_1360 : BitVec 32 := 32#32
  let v1259 : BitVec 32 := Scalar.remsi v1258 c32_i32_1360
  let c1_i32_1366 : BitVec 32 := 1#32
  let v1260 : BitVec 32 := Scalar.muli v1259 c1_i32_1366
  let v1261 : BitVec 32 := Scalar.addi c0_i32_1367 v1260
  v1261.toNat
def k0_dev80 (d0 : Dev nD) : Nat :=
  let c0_i32_1378 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1370 : BitVec 32 := 18#32
  let v1268 : BitVec 32 := Scalar.addi v2 c18_i32_1370
  let c32_i32_1371 : BitVec 32 := 32#32
  let v1269 : BitVec 32 := Scalar.remsi v1268 c32_i32_1371
  let c1_i32_1377 : BitVec 32 := 1#32
  let v1270 : BitVec 32 := Scalar.muli v1269 c1_i32_1377
  let v1271 : BitVec 32 := Scalar.addi c0_i32_1378 v1270
  v1271.toNat
def k0_dev81 (d0 : Dev nD) : Nat :=
  let c0_i32_1389 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1381 : BitVec 32 := 19#32
  let v1278 : BitVec 32 := Scalar.addi v2 c19_i32_1381
  let c32_i32_1382 : BitVec 32 := 32#32
  let v1279 : BitVec 32 := Scalar.remsi v1278 c32_i32_1382
  let c1_i32_1388 : BitVec 32 := 1#32
  let v1280 : BitVec 32 := Scalar.muli v1279 c1_i32_1388
  let v1281 : BitVec 32 := Scalar.addi c0_i32_1389 v1280
  v1281.toNat
def k0_dev82 (d0 : Dev nD) : Nat :=
  let c0_i32_1400 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1392 : BitVec 32 := 20#32
  let v1288 : BitVec 32 := Scalar.addi v2 c20_i32_1392
  let c32_i32_1393 : BitVec 32 := 32#32
  let v1289 : BitVec 32 := Scalar.remsi v1288 c32_i32_1393
  let c1_i32_1399 : BitVec 32 := 1#32
  let v1290 : BitVec 32 := Scalar.muli v1289 c1_i32_1399
  let v1291 : BitVec 32 := Scalar.addi c0_i32_1400 v1290
  v1291.toNat
def k0_dev83 (d0 : Dev nD) : Nat :=
  let c0_i32_1411 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1403 : BitVec 32 := 21#32
  let v1298 : BitVec 32 := Scalar.addi v2 c21_i32_1403
  let c32_i32_1404 : BitVec 32 := 32#32
  let v1299 : BitVec 32 := Scalar.remsi v1298 c32_i32_1404
  let c1_i32_1410 : BitVec 32 := 1#32
  let v1300 : BitVec 32 := Scalar.muli v1299 c1_i32_1410
  let v1301 : BitVec 32 := Scalar.addi c0_i32_1411 v1300
  v1301.toNat
def k0_dev84 (d0 : Dev nD) : Nat :=
  let c0_i32_1422 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1414 : BitVec 32 := 22#32
  let v1308 : BitVec 32 := Scalar.addi v2 c22_i32_1414
  let c32_i32_1415 : BitVec 32 := 32#32
  let v1309 : BitVec 32 := Scalar.remsi v1308 c32_i32_1415
  let c1_i32_1421 : BitVec 32 := 1#32
  let v1310 : BitVec 32 := Scalar.muli v1309 c1_i32_1421
  let v1311 : BitVec 32 := Scalar.addi c0_i32_1422 v1310
  v1311.toNat
def k0_dev85 (d0 : Dev nD) : Nat :=
  let c0_i32_1433 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1425 : BitVec 32 := 23#32
  let v1318 : BitVec 32 := Scalar.addi v2 c23_i32_1425
  let c32_i32_1426 : BitVec 32 := 32#32
  let v1319 : BitVec 32 := Scalar.remsi v1318 c32_i32_1426
  let c1_i32_1432 : BitVec 32 := 1#32
  let v1320 : BitVec 32 := Scalar.muli v1319 c1_i32_1432
  let v1321 : BitVec 32 := Scalar.addi c0_i32_1433 v1320
  v1321.toNat
def k0_dev86 (d0 : Dev nD) : Nat :=
  let c0_i32_1444 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1436 : BitVec 32 := 24#32
  let v1328 : BitVec 32 := Scalar.addi v2 c24_i32_1436
  let c32_i32_1437 : BitVec 32 := 32#32
  let v1329 : BitVec 32 := Scalar.remsi v1328 c32_i32_1437
  let c1_i32_1443 : BitVec 32 := 1#32
  let v1330 : BitVec 32 := Scalar.muli v1329 c1_i32_1443
  let v1331 : BitVec 32 := Scalar.addi c0_i32_1444 v1330
  v1331.toNat
def k0_dev87 (d0 : Dev nD) : Nat :=
  let c0_i32_1455 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1447 : BitVec 32 := 25#32
  let v1338 : BitVec 32 := Scalar.addi v2 c25_i32_1447
  let c32_i32_1448 : BitVec 32 := 32#32
  let v1339 : BitVec 32 := Scalar.remsi v1338 c32_i32_1448
  let c1_i32_1454 : BitVec 32 := 1#32
  let v1340 : BitVec 32 := Scalar.muli v1339 c1_i32_1454
  let v1341 : BitVec 32 := Scalar.addi c0_i32_1455 v1340
  v1341.toNat
def k0_dev88 (d0 : Dev nD) : Nat :=
  let c0_i32_1466 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1458 : BitVec 32 := 26#32
  let v1348 : BitVec 32 := Scalar.addi v2 c26_i32_1458
  let c32_i32_1459 : BitVec 32 := 32#32
  let v1349 : BitVec 32 := Scalar.remsi v1348 c32_i32_1459
  let c1_i32_1465 : BitVec 32 := 1#32
  let v1350 : BitVec 32 := Scalar.muli v1349 c1_i32_1465
  let v1351 : BitVec 32 := Scalar.addi c0_i32_1466 v1350
  v1351.toNat
def k0_dev89 (d0 : Dev nD) : Nat :=
  let c0_i32_1477 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1469 : BitVec 32 := 27#32
  let v1358 : BitVec 32 := Scalar.addi v2 c27_i32_1469
  let c32_i32_1470 : BitVec 32 := 32#32
  let v1359 : BitVec 32 := Scalar.remsi v1358 c32_i32_1470
  let c1_i32_1476 : BitVec 32 := 1#32
  let v1360 : BitVec 32 := Scalar.muli v1359 c1_i32_1476
  let v1361 : BitVec 32 := Scalar.addi c0_i32_1477 v1360
  v1361.toNat
def k0_dev90 (d0 : Dev nD) : Nat :=
  let c0_i32_1488 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1480 : BitVec 32 := 28#32
  let v1368 : BitVec 32 := Scalar.addi v2 c28_i32_1480
  let c32_i32_1481 : BitVec 32 := 32#32
  let v1369 : BitVec 32 := Scalar.remsi v1368 c32_i32_1481
  let c1_i32_1487 : BitVec 32 := 1#32
  let v1370 : BitVec 32 := Scalar.muli v1369 c1_i32_1487
  let v1371 : BitVec 32 := Scalar.addi c0_i32_1488 v1370
  v1371.toNat
def k0_dev91 (d0 : Dev nD) : Nat :=
  let c0_i32_1499 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1491 : BitVec 32 := 29#32
  let v1378 : BitVec 32 := Scalar.addi v2 c29_i32_1491
  let c32_i32_1492 : BitVec 32 := 32#32
  let v1379 : BitVec 32 := Scalar.remsi v1378 c32_i32_1492
  let c1_i32_1498 : BitVec 32 := 1#32
  let v1380 : BitVec 32 := Scalar.muli v1379 c1_i32_1498
  let v1381 : BitVec 32 := Scalar.addi c0_i32_1499 v1380
  v1381.toNat
def k0_dev92 (d0 : Dev nD) : Nat :=
  let c0_i32_1510 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1502 : BitVec 32 := 30#32
  let v1388 : BitVec 32 := Scalar.addi v2 c30_i32_1502
  let c32_i32_1503 : BitVec 32 := 32#32
  let v1389 : BitVec 32 := Scalar.remsi v1388 c32_i32_1503
  let c1_i32_1509 : BitVec 32 := 1#32
  let v1390 : BitVec 32 := Scalar.muli v1389 c1_i32_1509
  let v1391 : BitVec 32 := Scalar.addi c0_i32_1510 v1390
  v1391.toNat
def k0_dev93 (d0 : Dev nD) : Nat :=
  let c0_i32_1521 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1513 : BitVec 32 := 31#32
  let v1398 : BitVec 32 := Scalar.addi v2 c31_i32_1513
  let c32_i32_1514 : BitVec 32 := 32#32
  let v1399 : BitVec 32 := Scalar.remsi v1398 c32_i32_1514
  let c1_i32_1520 : BitVec 32 := 1#32
  let v1400 : BitVec 32 := Scalar.muli v1399 c1_i32_1520
  let v1401 : BitVec 32 := Scalar.addi c0_i32_1521 v1400
  v1401.toNat
def k0_off3 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1526 : BitVec 32 := 16#32
  let v1409 : BitVec 32 := Scalar.muli v2 c16_i32_1526
  let v1410 : Index := Scalar.indexCast v1409
  let c0_1527 : Index := 0#32
  ![v1410.toNat, 0]
def k0_off4 (d0 : Dev nD) (c1_i32_1807 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1598 : BitVec 32 := Scalar.addi v2 c1_i32_1807
  let c32_i32_1808 : BitVec 32 := 32#32
  let v1599 : BitVec 32 := Scalar.remsi v1598 c32_i32_1808
  let c16_i32_1812 : BitVec 32 := 16#32
  let v1602 : BitVec 32 := Scalar.muli v1599 c16_i32_1812
  let v1603 : Index := Scalar.indexCast v1602
  let c0_1813 : Index := 0#32
  ![v1603.toNat, 0]
abbrev stage0_0 : Fin 1 → Memref sig .tc .vmem S1x512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S32x512x512 : Shape := ⟨3, ![32, 512, 512]⟩
abbrev S_ : Shape := ⟨0, ![]⟩
abbrev S512x512 : Shape := ⟨2, ![512, 512]⟩

abbrev nBuf : Space → Nat
  | .hbm => 5
  | .vmem => 0
  | .smem => 0
  | _ => 0

abbrev bufTy : (tb : Table) → Fin (tcTables nBuf tb) → BufTy
  | .hbm, ⟨0, _⟩ => ⟨S32x512x512, .bf16⟩
  | .hbm, ⟨1, _⟩ => ⟨S32x512x512, .f32⟩
  | .hbm, ⟨2, _⟩ => ⟨S_, .f32⟩
  | .hbm, ⟨3, _⟩ => ⟨S512x512, .f32⟩
  | .hbm, ⟨4, _⟩ => ⟨S512x512, .bf16⟩
  | _, _ => ⟨S32x512x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Steps.lean ====
/-
# `Steps`: the kernel's body as six loops over its peers

The print of the kernel unrolls every loop over the thirty-one peers. Here the same sequence of
operations is written with the loops: one definition per loop body, at a peer number `i : Fin 31`
(the source's `k = i + 1`), and `body`, which runs them one after another. `Unroll` proves that the
printed body is `body`. Every later theorem about a loop is stated for its body once.
-/
module

public import proofs.«01_k».proof.Proof.Gen.KernelIdeal
public import proofs.«01_k».proof.Proof.Gen.KernelIdeal.Skeleton

@[expose] public section

noncomputable section

namespace Cert.TreeRed

open Idealize.ShloMosaic Idealize.SL.Sem Cert.KernelIdeal Cert.KernelIdeal.Gen

variable {F : FTy → Type} [FloatOps F]

/-- A kernel thread's programs. -/
abbrev P (F : FTy → Type) [FloatOps F] (α : Type) : Type 1 := Prog (TpuEff nD τ sig (Elt F) Λ₀ .tc) α

/-! ### Numbers -/

/-- The device word `w` places after `d`, as the kernel computes it. -/
def hop (d : Dev nD) (w : BitVec 32) : Nat :=
  (Scalar.addi 0#32 (Scalar.muli (Scalar.remsi (Scalar.addi (Scalar.remsi (Scalar.divsi (Dev.word d) 1#32) 32#32) w) 32#32) 1#32)).toNat

/-- The device `i + 1` places after `d`, around the ring of thirty-two. -/
theorem hop_eq : ∀ (d : Dev nD) (i : Fin 31), hop d (BitVec.ofNat 32 (1 + i.val)) = (d.val + i.val + 1) % 32 := by decide +kernel

theorem hop_lt (d : Dev nD) (i : Fin 31) : hop d (BitVec.ofNat 32 (1 + i.val)) < nD := by
  rw [hop_eq]; exact Nat.mod_lt _ (by decide)

/-- Peer `i` of device `d`, named as the kernel names it. -/
def peer (d : Dev nD) (i : Fin 31) : Dev nD := ⟨hop d (BitVec.ofNat 32 (1 + i.val)), hop_lt d i⟩

/-- The slot of peer `i` in a buffer of thirty-two slots. -/
def slotOf (i : Fin 31) : Fin 32 := ⟨1 + i.val, by omega⟩

/-- The slot that this device fills on peer `i` in the second exchange. -/
def backOf (i : Fin 31) : Fin 32 := ⟨31 - i.val, by omega⟩

theorem slot_inb (k : Fin 32) : ∀ a, (![k.val, 0, 0] : Fin 3 → Nat) a + S1x16x512.size a ≤ S32x16x512.size a := by
  revert k; decide
theorem cell_inb (k : Fin 32) : ∀ a, (![0, k.val] : Fin 2 → Nat) a + S1x1.size a ≤ S2x32.size a := by
  revert k; decide

/-- The rectangle of slot `k`. -/
abbrev slotRect (k : Fin 32) : Rect S32x16x512 := Rect.unit (s := S32x16x512) ![k.val, 0, 0] S1x16x512.size (slot_inb k)

theorem slot_words (k : Fin 32) : (slotRect k).WholeWords (EltTy.packing .bf16) := by revert k; decide
theorem slot_packed (k : Fin 32) : (slotRect k).PackedRows (EltTy.packing .bf16) := by revert k; decide

/-- Slot `k` of a buffer, as a sixteen-row view. -/
abbrev slot (a : Memref sig .tc .vmem S32x16x512 .bf16) (k : Fin 32) : Memref sig .tc .vmem S16x512 .bf16 :=
  (a.slice (slotRect k) (fun _ => rfl)).squeeze S16x512 squeezes_S1x16x512_S16x512

/-- Semaphore `[0, k]` of an array of them. -/
abbrev cell (a : DmaSems sig S2x32) (k : Fin 32) : DmaSem sig :=
  ((a.slice (Rect.unit (s := S2x32) ![0, k.val] S1x1.size (cell_inb k))).squeeze S_ squeezes_S1x1_S_).sem

/-- The rectangle of the input that goes to peer `i` of device `d`. -/
abbrev inRect (d : Dev nD) (i : Fin 31) : Rect S1x512x512 :=
  Rect.unit (s := S1x512x512) (k0_off1 d (BitVec.ofNat 32 (1 + i.val))) S1x16x512.size (k0_off1_inb d i)
/-- The rectangle of the input that device `d` keeps. -/
abbrev ownRect (d : Dev nD) : Rect S1x512x512 := Rect.unit (s := S1x512x512) (k0_off2 d) S1x16x512.size (k0_off2_inb d)
/-- The rows of the result that device `d` computes itself. -/
abbrev outOwn (d : Dev nD) : Rect S512x512 := Rect.unit (s := S512x512) (k0_off3 d) S16x512.size (k0_off3_inb d)
/-- The rows of the result that peer `i` of device `d` computes. -/
abbrev outRect (d : Dev nD) (i : Fin 31) : Rect S512x512 :=
  Rect.unit (s := S512x512) (k0_off4 d (BitVec.ofNat 32 (1 + i.val))) S16x512.size (k0_off4_inb d i)
/-- The whole of the sixteen-row buffer. -/
abbrev redRect : Rect S16x512 := Rect.unit (s := S16x512) ![0, 0] S16x512.size inb_S16x512_S16x512_0_0

/-- The barrier semaphore. -/
abbrev bar : Sem sig := (SemArray.scalar (sig.barrier 0 rfl) : Sems sig S_).sem

/-- The peers, in the order the kernel visits them. -/
def peers : List (Fin 31) :=
  [⟨0, by decide⟩, ⟨1, by decide⟩, ⟨2, by decide⟩, ⟨3, by decide⟩, ⟨4, by decide⟩, ⟨5, by decide⟩, ⟨6, by decide⟩, ⟨7, by decide⟩,
    ⟨8, by decide⟩, ⟨9, by decide⟩, ⟨10, by decide⟩, ⟨11, by decide⟩, ⟨12, by decide⟩, ⟨13, by decide⟩, ⟨14, by decide⟩, ⟨15, by decide⟩,
    ⟨16, by decide⟩, ⟨17, by decide⟩, ⟨18, by decide⟩, ⟨19, by decide⟩, ⟨20, by decide⟩, ⟨21, by decide⟩, ⟨22, by decide⟩, ⟨23, by decide⟩,
    ⟨24, by decide⟩, ⟨25, by decide⟩, ⟨26, by decide⟩, ⟨27, by decide⟩, ⟨28, by decide⟩, ⟨29, by decide⟩, ⟨30, by decide⟩]

/-- A loop over peers. -/
def each (f : Fin 31 → P F PUnit) : List (Fin 31) → P F PUnit
  | [] => .ret ⟨⟩
  | i :: l => f i >>= fun _ => each f l

/-- A loop over peers that carries a value. -/
def fold {α : Type} (f : Fin 31 → α → P F α) : List (Fin 31) → α → P F α
  | [], a => .ret a
  | i :: l, a => f i a >>= fun b => fold f l b

/-! ### Pure values -/

/-- A block read as one sixteen-row page. -/
def page (v : Vec F S1x16x512 .bf16) : FVec F S16x512 .bf16 := shapeCast S16x512 v shapeCasts_S1x16x512_S16x512
/-- A page written as a block. -/
def unpage (v : FVec F S16x512 .bf16) : FVec F S1x16x512 .bf16 := shapeCast S1x16x512 v shapeCasts_S16x512_S1x16x512
/-- The sum so far, before any peer's block. -/
def acc0 (v : Vec F S1x16x512 .bf16) : FVec F S16x512 .f32 := extf .f32 (page v) bitsLt_bf16_f32
/-- The sum with one more block. -/
def accAdd (a : FVec F S16x512 .f32) (v : Vec F S1x16x512 .bf16) : FVec F S16x512 .f32 := addf a (extf .f32 (page v) bitsLt_bf16_f32)
/-- The sum rounded to the type of the result. -/
def narrow (a : FVec F S16x512 .f32) : FVec F S16x512 .bf16 := shapeCast S16x512 (truncf .bf16 a bitsLt_bf16_f32) shapeCasts_S16x512_S16x512

/-! ### The loop bodies -/

section
variable (arg0 : Memref sig .tc .vmem S1x512x512 .bf16) (harg0 : arg0.IsWhole) (arg1 : Memref sig .tc .vmem S512x512 .bf16) (harg1 : arg1.IsWhole)
  (arg2 : Memref sig .tc .vmem S32x16x512 .bf16) (harg2 : arg2.IsWhole) (arg3 : Memref sig .tc .vmem S32x16x512 .bf16) (harg3 : arg3.IsWhole)
  (arg4 : Memref sig .tc .vmem S32x16x512 .bf16) (harg4 : arg4.IsWhole) (arg5 : Memref sig .tc .vmem S16x512 .bf16) (harg5 : arg5.IsWhole)
  (arg6 arg7 arg8 arg9 : DmaSems sig S2x32)

/-- Tell peer `i` that this device has entered. -/
def hello (d : Dev nD) (i : Fin 31) : P F PUnit := semSignalWord (peer d i) bar 1#32

/-- Stage the rows of peer `i` and send them. -/
def scatter (d : Dev nD) (i : Fin 31) : P F PUnit := do
  let v : Vec F S1x16x512 .bf16 ← Prog.lift (.load arg0 (inRect d i).toLoadRect (View.loadsAt_vmem h_S1x16x512))
  let _ : Vec F S1x16x512 .bf16 ← Prog.lift (.load arg2 (slotRect (slotOf i)).toLoadRect (View.loadsAt_vmem h_S1x16x512))
  Prog.lift (.store arg2 (slotRect (slotOf i)) (unpage (page v)) Finset.univ (View.stores_vmem h_S1x16x512 (harg2.storeExact_slice rfl _ (slot_packed (slotOf i))) (fun _ => rfl)) (.inl rfl))
  Prog.lift (.enqueueDma (slot arg2 (slotOf i)) (.remote (Dev.tc (peer d i)) (slot arg3 (slotOf i)) (.dma (cell arg6 (slotOf i)))) (.dma (cell arg7 (slotOf i)))
    ((harg2.wordExact_slice rfl _ (slot_words (slotOf i))).reshape _ _) ((harg3.wordExact_slice rfl _ (slot_words (slotOf i))).reshape _ _) ⟨⟨rfl, Or.inl rfl⟩, trivial⟩)

/-- Wait for the block of the device that has this one as its peer `i`, and add it. -/
def gatherAdd (i : Fin 31) (a : FVec F S16x512 .f32) : P F (FVec F S16x512 .f32) := do
  Prog.lift (.waitDma2 (cell arg7 (slotOf i)) (slot arg2 (slotOf i)) (slot arg3 (slotOf i))
    ((harg2.wordExact_slice rfl _ (slot_words (slotOf i))).reshape _ _) ((harg3.wordExact_slice rfl _ (slot_words (slotOf i))).reshape _ _))
  let v : Vec F S1x16x512 .bf16 ← Prog.lift (.load arg3 (slotRect (slotOf i)).toLoadRect (View.loadsAt_vmem h_S1x16x512))
  .ret (accAdd a v)

/-- Send the reduced rows to peer `i`. -/
def spread (d : Dev nD) (i : Fin 31) : P F PUnit :=
  Prog.lift (.enqueueDma arg5 (.remote (Dev.tc (peer d i)) (slot arg4 (backOf i)) (.dma (cell arg8 (slotOf i)))) (.dma (cell arg9 (slotOf i)))
    harg5.wordExact ((harg4.wordExact_slice rfl _ (slot_words (backOf i))).reshape _ _) ⟨⟨rfl, Or.inl rfl⟩, trivial⟩)

/-- Wait for the reduced rows of the device that has this one as its peer `i`. -/
def await (i : Fin 31) : P F PUnit :=
  Prog.lift (.waitDma2 (cell arg9 (slotOf i)) arg5 (slot arg4 (backOf i)) harg5.wordExact ((harg4.wordExact_slice rfl _ (slot_words (backOf i))).reshape _ _))

/-- Copy the reduced rows of peer `i` into the result. -/
def place (d : Dev nD) (i : Fin 31) : P F PUnit := do
  let v : Vec F S1x16x512 .bf16 ← Prog.lift (.load arg4 (slotRect (slotOf i)).toLoadRect (View.loadsAt_vmem h_S1x16x512))
  let _ : Vec F S16x512 .bf16 ← Prog.lift (.load arg1 (outRect d i).toLoadRect (View.loadsAt_vmem h_S16x512))
  Prog.lift (.store arg1 (outRect d i) (page v) Finset.univ (View.stores_vmem h_S16x512 (harg1.storeExact_slice rfl _ (k0_off4_packedbf16 d i)) (fun _ => rfl)) (.inl rfl))

/-- Wait until both of this device's copies to peer `i` have left. -/
def drain (i : Fin 31) : P F PUnit := do
  Prog.lift (.waitDma2 (cell arg6 (slotOf i)) (slot arg3 (slotOf i)) (slot arg2 (slotOf i))
    ((harg3.wordExact_slice rfl _ (slot_words (slotOf i))).reshape _ _) ((harg2.wordExact_slice rfl _ (slot_words (slotOf i))).reshape _ _))
  Prog.lift (.waitDma2 (cell arg8 (slotOf i)) (slot arg4 (backOf i)) arg5 ((harg4.wordExact_slice rfl _ (slot_words (backOf i))).reshape _ _) harg5.wordExact)

/-- Keep the rounded sum. -/
def keep (a : FVec F S16x512 .f32) : P F PUnit := do
  let _ : Vec F S16x512 .bf16 ← Prog.lift (.load arg5 redRect.toLoadRect (View.loadsAt_vmem h_S16x512))
  Prog.lift (.store arg5 redRect (narrow a) Finset.univ (View.stores_vmem h_S16x512 (harg5.storeExact_slice rfl _ packedbf16_S16x512_S16x512_0_0) (fun _ => rfl)) (.inl rfl))

/-- Copy the kept rows into the result. -/
def placeOwn (d : Dev nD) : P F PUnit := do
  let v : Vec F S16x512 .bf16 ← Prog.lift (.load arg5 redRect.toLoadRect (View.loadsAt_vmem h_S16x512))
  let _ : Vec F S16x512 .bf16 ← Prog.lift (.load arg1 (outOwn d).toLoadRect (View.loadsAt_vmem h_S16x512))
  Prog.lift (.store arg1 (outOwn d) v Finset.univ (View.stores_vmem h_S16x512 (harg1.storeExact_slice rfl _ (k0_off3_packedbf16 d)) (fun _ => rfl)) (.inl rfl))

/-- The body, loop after loop. -/
def body : P F PUnit := do
  let d : Dev nD ← Prog.lift .deviceId
  each (hello d) peers
  semWaitWord bar 31#32
  each (scatter arg0 arg2 harg2 arg3 harg3 arg6 arg7 d) peers
  let v : Vec F S1x16x512 .bf16 ← Prog.lift (.load arg0 (ownRect d).toLoadRect (View.loadsAt_vmem h_S1x16x512))
  let a : FVec F S16x512 .f32 ← fold (gatherAdd arg2 harg2 arg3 harg3 arg7) peers (acc0 v)
  keep arg5 harg5 a
  each (spread arg4 harg4 arg5 harg5 arg8 arg9 d) peers
  placeOwn arg1 harg1 arg5 d
  each (await arg4 harg4 arg5 harg5 arg9) peers
  each (place arg1 harg1 arg4 d) peers
  each (drain arg2 harg2 arg3 harg3 arg4 harg4 arg5 harg5 arg6 arg8) peers

end

end Cert.TreeRed

end
-- ==== Proof.Protocol.lean ====
/-
# `Protocol`: who may touch what, and when

The kernel's semaphores as cells of one protocol of a single round. A device's barrier cell is raised
once by each of its thirty-one peers, and each raise hands over the two landing slots on that peer
which the device will fill. A receive cell is raised once, by the block that lands, and hands over the
slot with that block in it; a send cell is raised once, when the block has left, and hands back what
was lent to the copy. Everything is stated for any float model and for any inputs `X`, one block of
the input for every device.
-/
module

public import proofs.«01_k».proof.Proof.Steps
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Ring
public import Idealize.ShloMosaic.Lib.Transfers

@[expose] public section

noncomputable section

namespace Cert.TreeRed

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

/-! ### The ring of devices -/

/-- The peer number by which peer `i` of a device calls that device. -/
def rev (i : Fin 31) : Fin 31 := ⟨30 - i.val, by omega⟩

theorem rev_rev (i : Fin 31) : rev (rev i) = i := Fin.ext (by simp only [rev]; omega)
theorem peer_val (d : Dev nD) (i : Fin 31) : (peer d i).val = (d.val + i.val + 1) % 32 := hop_eq d i
theorem peer_peer (d : Dev nD) (i : Fin 31) : peer (peer d i) (rev i) = d := by
  have hd : d.val < 32 := d.isLt
  refine Fin.ext ?_
  rw [peer_val, peer_val]; simp only [rev]; omega
theorem peer_rev (d : Dev nD) (i : Fin 31) : peer (peer d (rev i)) i = d := by
  have := peer_peer d (rev i); rwa [rev_rev] at this
theorem slotOf_rev (i : Fin 31) : slotOf (rev i) = backOf i := Fin.ext (by simp only [slotOf, rev, backOf]; omega)
theorem backOf_rev (i : Fin 31) : backOf (rev i) = slotOf i := by rw [← slotOf_rev, rev_rev]

/-- Going to peer `i` and coming back, as a permutation of the devices. -/
def turn (i : Fin 31) : Dev nD ≃ Dev nD := ⟨fun d => peer d i, fun d => peer d (rev i), fun d => peer_peer d i, fun d => peer_rev d i⟩
/-- Calling peers from the other side, as a permutation of the peer numbers. -/
def flip : Fin 31 ≃ Fin 31 := ⟨rev, rev, rev_rev, rev_rev⟩

theorem mem_peers (i : Fin 31) : i ∈ peers := by revert i; decide
theorem peers_nodup : peers.Nodup := by decide

/-! ### Buffers and semaphores -/

abbrev xM : Memref sig .tc .vmem S1x512x512 .bf16 := Memref.whole cc0_stg0_0
abbrev oM : Memref sig .tc .vmem S512x512 .bf16 := Memref.whole cc0_stg1_0
/-- The blocks on their way out, the blocks that land, the reduced rows that land, and this device's reduced rows. -/
abbrev sM : Memref sig .tc .vmem S32x16x512 .bf16 := Memref.whole cc0_scratch0
abbrev aM : Memref sig .tc .vmem S32x16x512 .bf16 := Memref.whole cc0_scratch1
abbrev gM : Memref sig .tc .vmem S32x16x512 .bf16 := Memref.whole cc0_scratch2
abbrev rM : Memref sig .tc .vmem S16x512 .bf16 := Memref.whole cc0_scratch3

/-- The four arrays of semaphores: first exchange sent and received, second exchange sent and received. -/
abbrev semArr : Fin 4 → DmaSems sig S2x32 := fun | 0 => cc0_scratch4 | 1 => cc0_scratch5 | 2 => cc0_scratch6 | 3 => cc0_scratch7
/-- The semaphore of array `a` that serves peer `i`. -/
abbrev sm (a : Fin 4) (i : Fin 31) : DmaSem sig := cell (semArr a) (slotOf i)

theorem sm_val : ∀ (a : Fin 4) (i : Fin 31), (sm a i).val = 64 * a.val + 3 + i.val := by decide +kernel

/-- What a semaphore is for. -/
inductive Tag where
  | bar
  | dma (a : Fin 4) (i : Fin 31)
  | other

/-- What a semaphore is for, read off its number. -/
def tag : SemLoc sig → Tag
  | .reg _ => .bar
  | .dma s => if h : 2 ≤ s.val ∧ s.val < 258 ∧ 1 ≤ (s.val - 2) % 64 ∧ (s.val - 2) % 64 ≤ 31 then
      .dma ⟨(s.val - 2) / 64, by omega⟩ ⟨(s.val - 2) % 64 - 1, by omega⟩ else .other

theorem tag_reg (s : Sem sig) : tag (.reg s) = .bar := rfl
theorem tag_sm (a : Fin 4) (i : Fin 31) : tag (.dma (sm a i)) = .dma a i := by
  have hv := sm_val a i
  have ha := a.isLt
  have hi := i.isLt
  unfold tag
  simp only
  rw [dif_pos (by omega)]
  have h1 : (⟨((sm a i).val - 2) / 64, by omega⟩ : Fin 4) = a := Fin.ext (by simp only; omega)
  have h2 : (⟨((sm a i).val - 2) % 64 - 1, by omega⟩ : Fin 31) = i := Fin.ext (by simp only; omega)
  exact congr (congrArg Tag.dma h1) h2

theorem sm_inj {a a' : Fin 4} {i i' : Fin 31} (h : sm a i = sm a' i') : a = a' ∧ i = i' := by
  have h1 := tag_sm a i; rw [h, tag_sm] at h1; cases h1; exact ⟨rfl, rfl⟩

abbrev barC (c : Dev nD) : GSem nD τ sig := ((c : Thread nD τ), .reg bar)
abbrev dmaC (a : Fin 4) (c : Dev nD) (i : Fin 31) : GSem nD τ sig := ((c : Thread nD τ), .dma (sm a i))

/-- The credit of one block. -/
abbrev N : ℕ := (slot aM 0).view.dmaCredit
theorem N_pos : 0 < N := View.dmaCredit_pos _ (by decide)

/-! ### Contents -/

section Contents
variable (X : Dev nD → Vec F S1x512x512 .bf16)

/-- The block that device `d` sends to its peer `i`. -/
def sent (d : Dev nD) (i : Fin 31) : FVec F S16x512 .bf16 := page (xM.view.readAt (Elt F) (inRect d i).toLoadRect (X d))
/-- The block that device `d` keeps. -/
def kept (d : Dev nD) : Vec F S1x16x512 .bf16 := xM.view.readAt (Elt F) (ownRect d).toLoadRect (X d)
/-- The block that lands in slot `i` of device `d`. -/
def got (d : Dev nD) (i : Fin 31) : FVec F S16x512 .bf16 := sent X (peer d (rev i)) i
/-- A sum with one more page. -/
def accPage (a : FVec F S16x512 .f32) (p : FVec F S16x512 .bf16) : FVec F S16x512 .f32 := addf a (extf .f32 p bitsLt_bf16_f32)
/-- The sum of the kept block and of the blocks that landed from the listed peers. -/
def accOf (d : Dev nD) (l : List (Fin 31)) : FVec F S16x512 .f32 := l.foldl (fun a i => accPage a (got X d i)) (acc0 (kept X d))
/-- The rows of the result that device `d` computes. -/
def red (d : Dev nD) : FVec F S16x512 .bf16 := narrow (accOf X d peers)
/-- The result: row `r` is row `r % 16` of what device `r / 16` computes. -/
def outAt : Vec F S512x512 .bf16 := fun x =>
  red X ⟨(x 0).val / 16, by have h : (x 0).val < 512 := (x 0).isLt; show _ < 32; omega⟩ (fun | ⟨0, _⟩ => ⟨(x 0).val % 16, Nat.mod_lt _ (by decide)⟩ | ⟨1, _⟩ => x 1)

end Contents

/-! ### The resources of the proof -/

abbrev UB : Type := URounds (GSem nD τ sig) (Fin 31)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-- Slot `k` of a buffer of device `c`, at any contents. -/
def hole (c : Dev nD) (a : Memref sig .tc .vmem S32x16x512 .bf16) (k : Fin 32) : sProp 𝕄 :=
  iprop(∃ f, (slot a k).view.loc (c : Thread nD τ) ↦[(slot a k).view.set]{fullShare} f)
/-- Slot `k` of a buffer of device `c`, holding the page `p`. -/
def full (c : Dev nD) (a : Memref sig .tc .vmem S32x16x512 .bf16) (k : Fin 32) (p : FVec F S16x512 .bf16) : sProp 𝕄 :=
  iprop(∃ f, ⌜(slot a k).view.read (Elt F) f = p⌝ ∗ ((slot a k).view.loc (c : Thread nD τ) ↦[(slot a k).view.set]{fullShare} f))
/-- A share of the reduced rows of device `c`. -/
def redPts (c : Dev nD) (q : PosShare TreeShare) (p : FVec F S16x512 .bf16) : sProp 𝕄 :=
  iprop(rM.view.loc (c : Thread nD τ) ↦[rM.view.set]{q} p)

omit [FloatOps F] in
instance hole_storable (c : Dev nD) (a k) : BI.Storable (upEmb : UEmb _ 𝕄) (hole (F := F) c a k) := by unfold hole; infer_instance
omit [FloatOps F] in
instance full_storable (c : Dev nD) (a k p) : BI.Storable (upEmb : UEmb _ 𝕄) (full (F := F) c a k p) := by unfold full; infer_instance
omit [FloatOps F] in
instance redPts_storable (c : Dev nD) (q p) : BI.Storable (upEmb : UEmb _ 𝕄) (redPts (F := F) c q p) := by unfold redPts; infer_instance

omit [FloatOps F] in
theorem full_hole (c : Dev nD) (a : Memref sig .tc .vmem S32x16x512 .bf16) (k : Fin 32) (p : FVec F S16x512 .bf16) :
    (full c a k p : sProp 𝕄) ⊢ hole c a k := by
  unfold full hole; iintro ⟨%f, -, H⟩; iexists f; iexact H

/-! ### The schedule -/

section Sched
variable (X : Dev nD → Vec F S1x512x512 .bf16)

/-- What a raise of the barrier by peer `j` of `c` hands over: the two slots on that peer which `c` fills. -/
def barPay (c : Dev nD) (j : Fin 31) : sProp 𝕄 := iprop(hole (peer c j) aM (slotOf j) ∗ hole (peer c j) gM (backOf j))
/-- What the raise of a semaphore of a copy hands over. -/
def dmaPay (c : Dev nD) (a : Fin 4) (i : Fin 31) : sProp 𝕄 :=
  match a with
  | 0 => hole c sM (slotOf i)
  | 1 => full c aM (slotOf i) (got X c i)
  | 2 => redPts c (shareTok fullShare 31 i) (red X c)
  | 3 => full c gM (backOf i) (red X (peer c (rev i)))

/-- What the raise of a semaphore hands over. -/
def payOf (c : Dev nD) (j : Fin 31) : Tag → sProp 𝕄
  | .bar => barPay c j
  | .dma a i => dmaPay X c a i
  | .other => iprop(emp)

/-- The raises a semaphore expects. -/
def dutiesOf : Tag → Finset (Fin 31)
  | .bar => Finset.univ
  | .dma _ _ => {0}
  | .other => ∅

/-- The units of one raise. -/
def unitsOf : Tag → ℕ
  | .bar => 1
  | _ => N

/-- The protocol: one round, every cell of a core as its tag says. -/
def proto : Rounds.Schedule (GSem nD τ sig) (Fin 31) 𝕄 where
  duties g r := if r = 0 ∧ g.1.2 = .tc then dutiesOf (tag g.2) else ∅
  unitless _ := False
  amount g _ _ := unitsOf (tag g.2)
  payload g _ j := payOf X g.1.1 j (tag g.2)
  amount_pos g _ _ _ := by
    cases tag g.2
    · exact Nat.one_pos
    · exact N_pos
    · exact N_pos

instance payOf_storable (c : Dev nD) (j : Fin 31) (t : Tag) : BI.Storable (upEmb : UEmb _ 𝕄) (payOf (F := F) X c j t) := by
  cases t with
  | bar => unfold payOf barPay; infer_instance
  | dma a i => unfold payOf dmaPay; fin_cases a <;> dsimp only <;> infer_instance
  | other => unfold payOf; infer_instance

instance proto_storable (g : GSem nD τ sig) (r : ℕ) (d : Fin 31) : BI.Storable (upEmb : UEmb _ 𝕄) ((proto (F := F) X).payload g r d) :=
  payOf_storable X g.1.1 d (tag g.2)

variable (c : Dev nD) (a : Fin 4) (i j : Fin 31)

theorem duties_bar : (proto (F := F) X).duties (barC c) 0 = Finset.univ := by dsimp only [proto]; rw [if_pos ⟨rfl, rfl⟩]; rfl
theorem duties_dma : (proto (F := F) X).duties (dmaC a c i) 0 = {0} := by dsimp only [proto]; rw [if_pos ⟨rfl, rfl⟩, tag_sm]; rfl
theorem duties_later (g : GSem nD τ sig) : ∀ r, 1 ≤ r → (proto (F := F) X).duties g r = ∅ :=
  fun r hr => by dsimp only [proto]; rw [if_neg fun h => by omega]

theorem amount_bar : (proto (F := F) X).amount (barC c) 0 j = 1 := rfl
theorem amount_dma : (proto (F := F) X).amount (dmaC a c i) 0 j = N := by dsimp only [proto]; rw [tag_sm]; rfl

theorem expect_bar : (proto (F := F) X).expect (barC c) 0 = 31 := by
  unfold Schedule.expect Schedule.amountOf
  rw [duties_bar, Finset.sum_congr rfl fun d _ => amount_bar X c d, Finset.sum_const, Finset.card_univ, Fintype.card_fin, smul_eq_mul]
theorem expect_dma : (proto (F := F) X).expect (dmaC a c i) 0 = N := by
  unfold Schedule.expect Schedule.amountOf; rw [duties_dma, Finset.sum_singleton, amount_dma]

theorem payload_bar : (proto (F := F) X).payload (barC c) 0 j = barPay c j := rfl
theorem payload_dma : (proto (F := F) X).payload (dmaC a c i) 0 j = dmaPay X c a i := by dsimp only [proto]; rw [tag_sm]; rfl

/-- All that the barrier's round hands over. -/
theorem rest_bar : bigSep ((proto (F := F) X).duties (barC c) 0 \ ∅) (fun d => (proto (F := F) X).payload (barC c) 0 d)
    = bigSep Finset.univ fun j => barPay c j := by rw [Finset.sdiff_empty, duties_bar]; rfl
/-- All that the round of a copy's semaphore hands over. -/
theorem rest_dma : bigSep ((proto (F := F) X).duties (dmaC a c i) 0 \ ∅) (fun d => (proto (F := F) X).payload (dmaC a c i) 0 d) = dmaPay X c a i := by
  rw [Finset.sdiff_empty, duties_dma, bigSep_singleton, payload_dma]

end Sched

/-! ### What is owed, and the order of the waits -/

/-- What is owed when `n` units are still to be paid to the cell `g i` of every listed `i`, and `b` besides. -/
def debt (g : Fin 31 → GSem nD τ sig) (n : ℕ) (b : CellTallies nD τ sig Unit) : List (Fin 31) → CellTallies nD τ sig Unit
  | [] => b
  | i :: l => debt g n b l + tallyAt (g i) () n

/-- Owed after the first exchange is under way: the blocks of the second. -/
def owed2 (c : Dev nD) (l : List (Fin 31)) : CellTallies nD τ sig Unit := debt (fun i => dmaC 3 (peer c i) i) N 0 l
/-- Owed after the barrier: the blocks of the first exchange, and all of the second. -/
def owed1 (c : Dev nD) (l : List (Fin 31)) : CellTallies nD τ sig Unit := debt (fun i => dmaC 1 (peer c i) i) N (owed2 c peers) l
/-- Owed at the start: the raises of the barriers, and all of both exchanges. -/
def owed0 (c : Dev nD) (l : List (Fin 31)) : CellTallies nD τ sig Unit := debt (fun i => barC (peer c i)) 1 (owed1 c peers) l
/-- Owed at launch. -/
def O₀ (c : Dev nD) : CellTallies nD τ sig Unit := owed0 c peers

theorem debt_pos {g : Fin 31 → GSem nD τ sig} {n : ℕ} {b : CellTallies nD τ sig Unit} {l : List (Fin 31)} {x : GSem nD τ sig} {u : Unit}
    (h : 0 < debt g n b l x u) : (∃ i, x = g i) ∨ 0 < b x u := by
  induction l with
  | nil => exact .inr h
  | cons i l ih =>
    unfold debt at h
    rw [Pi.add_apply, Finsupp.add_apply, tallyAt_apply] at h
    by_cases hx : x = g i
    · exact .inl ⟨i, hx⟩
    · rw [if_neg (fun h' => hx h'.1), Nat.add_zero] at h; exact ih h

/-- The cells of the cores carry a level. -/
def L (g : GSem nD τ sig) : Finset Unit := if g.1.2 = .tc then {()} else ∅
/-- Levels by tag: the barrier below the first exchange, that below the second, the rest lowest. -/
def level : Tag → ℕ
  | .bar => 1
  | .dma 1 _ => 2
  | .dma 3 _ => 3
  | _ => 0
def lv (g : GSem nD τ sig) (_ : Unit) : ℕ := level (tag g.2)

theorem L_of_ne (g : GSem nD τ sig) (h : g.1.2 ≠ .tc) : L g = ∅ := if_neg h
theorem L_tc (c : Dev nD) (s : SemLoc sig) : L ((c : Thread nD τ), s) = {()} := if_pos rfl

theorem owed2_lv {c : Dev nD} {l : List (Fin 31)} {x : GSem nD τ sig} {u : Unit} (h : 0 < owed2 c l x u) : x.1.2 = .tc ∧ 3 ≤ lv x u := by
  rcases debt_pos h with ⟨i, rfl⟩ | h
  · refine ⟨rfl, ?_⟩; unfold lv; rw [tag_sm]; exact Nat.le_refl _
  · exact absurd h (Nat.lt_irrefl 0)
theorem owed1_lv {c : Dev nD} {l : List (Fin 31)} {x : GSem nD τ sig} {u : Unit} (h : 0 < owed1 c l x u) : x.1.2 = .tc ∧ 2 ≤ lv x u := by
  rcases debt_pos h with ⟨i, rfl⟩ | h
  · refine ⟨rfl, ?_⟩; unfold lv; rw [tag_sm]; exact Nat.le_refl _
  · exact ⟨(owed2_lv h).1, Nat.le_of_succ_le (owed2_lv h).2⟩
theorem owed0_lv {c : Dev nD} {l : List (Fin 31)} {x : GSem nD τ sig} {u : Unit} (h : 0 < owed0 c l x u) : x.1.2 = .tc ∧ 1 ≤ lv x u := by
  rcases debt_pos h with ⟨i, rfl⟩ | h
  · exact ⟨rfl, Nat.le_refl _⟩
  · exact ⟨(owed1_lv h).1, Nat.le_of_succ_le (owed1_lv h).2⟩

omit [FloatOps F] in
/-- A device may wait on a semaphore below everything it owes. -/
theorem mayWait (c : Dev nD) (s : SemLoc sig) (O : CellTallies nD τ sig Unit)
    (h : ∀ (x : GSem nD τ sig) (u : Unit), 0 < O x u → x.1.2 = .tc ∧ lv ((c : Thread nD τ), s) () < lv x u) :
    (levAts L lv : sProp 𝕄) ⊢ MayWait (c : Thread nD τ) s () O :=
  MayOwe.of_cut (L := L) (lev := lv) (lv ((c : Thread nD τ), s) ())
    (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp])
    (fun g u hg => (h g u hg).2)

/-! ### The persistent records -/

/-- The cells of a device: its barrier, and the semaphores of its copies. -/
abbrev Cid : Type := Unit ⊕ (Fin 4 × Fin 31)
abbrev csem : Cid → SemLoc sig := fun | .inl _ => .reg bar | .inr (a, i) => .dma (sm a i)
abbrev kcell (ck : Dev nD × Cid) : GSem nD τ sig := ((ck.1 : Thread nD τ), csem ck.2)

section Records
variable (X : Dev nD → Vec F S1x512x512 .bf16) (K : Dev nD × Cid → ℕ)

/-- Every cell is in the protocol, at its first round. -/
def records : sProp 𝕄 :=
  iprop((bigSep Finset.univ fun ck : Dev nD × Cid => cellInv ER (proto X) (K ck) (kcell ck))
    ∗ bigSep Finset.univ fun ck : Dev nD × Cid => reached ER (kcell ck) 0)

instance records_persistent : BI.Persistent (records (F := F) X K) := by unfold records; infer_instance

theorem inv_at (ck : Dev nD × Cid) : (records X K : sProp 𝕄) ⊢ cellInv ER (proto X) (K ck) (kcell ck) :=
  sep_elim_left.trans (bigSep_elim (Finset.mem_univ ck))
theorem reached_at (ck : Dev nD × Cid) : (records X K : sProp 𝕄) ⊢ reached ER (kcell ck) 0 :=
  sep_elim_right.trans (bigSep_elim (Finset.mem_univ ck))

theorem inv_bar (c : Dev nD) : (records X K : sProp 𝕄) ⊢ cellInv ER (proto X) (K (c, .inl ())) (barC c) := inv_at X K (c, .inl ())
theorem inv_dma (a : Fin 4) (c : Dev nD) (i : Fin 31) : (records X K : sProp 𝕄) ⊢ cellInv ER (proto X) (K (c, .inr (a, i))) (dmaC a c i) :=
  inv_at X K (c, .inr (a, i))
theorem reached_bar (c : Dev nD) : (records X K : sProp 𝕄) ⊢ reached ER (barC c) 0 := reached_at X K (c, .inl ())
theorem reached_dma (a : Fin 4) (c : Dev nD) (i : Fin 31) : (records X K : sProp 𝕄) ⊢ reached ER (dmaC a c i) 0 := reached_at X K (c, .inr (a, i))

end Records

end Cert.TreeRed

end
-- ==== Proof.Loops.lean ====
/-
# `Loops`: one rule for a loop over peers

A loop over peers runs if each turn runs: a turn at peer `i` takes the state `St (i :: l)` and its own
resource `A i`, and leaves the state `St l` and the resource `B i`. The second rule is the same for a
loop that carries a value.
-/
module

public import proofs.«01_k».proof.Proof.Protocol

@[expose] public section

noncomputable section

namespace Cert.TreeRed

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

/-- Running a program on device `c`. -/
abbrev WP {α : Type} (c : Dev nD) (p : P F α) (Q : α → sProp 𝕄) : sProp 𝕄 :=
  wp frame (wpE (defs₀ (F := F)) 𝒱₀ (c : Thread nD τ) none) Set.univ p Q

/-- A program that takes `pre`, returns `a` and leaves `post`, whatever runs after it. -/
abbrev RunsTo {α : Type} (c : Dev nD) (pre : sProp 𝕄) (p : P F α) (a : α) (post : sProp 𝕄) : Prop :=
  ∀ (k : α → P F PUnit) (Q : PUnit → sProp 𝕄), pre ⊢ iprop((post -∗ WP c (k a) Q) -∗ WP c (p >>= k) Q)

omit [FloatOps F] in
/-- The first of a list set apart. -/
theorem peel (i : Fin 31) (l : List (Fin 31)) (Φ : Fin 31 → sProp 𝕄) : bigSepL (i :: l) Φ = iprop(Φ i ∗ bigSepL l Φ) := bigSepL_cons i l Φ

theorem fold_runs {α : Type} {c : Dev nD} {f : Fin 31 → α → P F α} {g : α → Fin 31 → α} {St : List (Fin 31) → sProp 𝕄} {A B : Fin 31 → sProp 𝕄}
    (h : ∀ i l a, RunsTo c iprop(St (i :: l) ∗ A i) (f i a) (g a i) iprop(St l ∗ B i)) :
    ∀ l a, RunsTo c iprop(St l ∗ bigSepL l A) (fold f l a) (l.foldl g a) iprop(St [] ∗ bigSepL l B) := by
  intro l
  induction l with
  | nil =>
    intro a k Q
    show _ ⊢ iprop((_ -∗ WP c (k a) Q) -∗ WP c (k a) Q)
    iintro H Hk
    iapply Hk
    iexact H
  | cons i l ih =>
    intro a k Q
    rw [peel i l A, peel i l B]
    show _ ⊢ iprop((_ -∗ WP c (k (l.foldl g (g a i))) Q) -∗ WP c ((f i a >>= fun b => fold f l b) >>= k) Q)
    rw [bind_assoc]
    iintro ⟨HS, HA, HL⟩ Hk
    iapply (h i l a (fun b => fold f l b >>= k) Q) $$ [HS HA]
    · isplitl [HS] <;> iassumption
    iintro ⟨HS, HB⟩
    iapply (ih (g a i) k Q) $$ [HS HL]
    · isplitl [HS] <;> iassumption
    iintro ⟨HS, HL⟩
    iapply Hk
    isplitl [HS]; · iexact HS
    isplitl [HB] <;> iassumption

theorem each_runs {c : Dev nD} {f : Fin 31 → P F PUnit} {St : List (Fin 31) → sProp 𝕄} {A B : Fin 31 → sProp 𝕄}
    (h : ∀ i l, RunsTo c iprop(St (i :: l) ∗ A i) (f i) ⟨⟩ iprop(St l ∗ B i)) :
    ∀ l, RunsTo c iprop(St l ∗ bigSepL l A) (each f l) ⟨⟩ iprop(St [] ∗ bigSepL l B) := by
  intro l
  induction l with
  | nil =>
    intro k Q
    show _ ⊢ iprop((_ -∗ WP c (k ⟨⟩) Q) -∗ WP c (k ⟨⟩) Q)
    iintro H Hk
    iapply Hk
    iexact H
  | cons i l ih =>
    intro k Q
    rw [peel i l A, peel i l B]
    show _ ⊢ iprop((_ -∗ WP c (k ⟨⟩) Q) -∗ WP c ((f i >>= fun _ => each f l) >>= k) Q)
    rw [bind_assoc]
    iintro ⟨HS, HA, HL⟩ Hk
    iapply (h i l (fun _ => each f l >>= k) Q) $$ [HS HA]
    · isplitl [HS] <;> iassumption
    iintro ⟨HS, HB⟩
    iapply (ih k Q) $$ [HS HL]
    · isplitl [HS] <;> iassumption
    iintro ⟨HS, HL⟩
    iapply Hk
    isplitl [HS]; · iexact HS
    isplitl [HB] <;> iassumption

omit [FloatOps F] in
/-- All the peers, one by one. -/
theorem over_peers (Φ : Fin 31 → sProp 𝕄) : bigSep Finset.univ Φ = bigSepL peers Φ :=
  bigSep_univ_eq_bigSepL peers (by decide) peers_nodup Φ

end Cert.TreeRed

end
-- ==== Proof.Exchange.lean ====
/-
# `Exchange`: one turn of each loop

For each loop of the body, what one turn at peer `i` takes and leaves. The turns of the loops that
signal, send and wait are here; they are stated for device `c`, for any inputs `X`.
-/
module

public import proofs.«01_k».proof.Proof.Loops

@[expose] public section

noncomputable section

namespace Cert.TreeRed

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (X : Dev nD → Vec F S1x512x512 .bf16) (K : Dev nD × Cid → ℕ)

/-- What every loop runs under: the records, the levels, and what the device owes. -/
def under (c : Dev nD) (O : CellTallies nD τ sig Unit) : sProp 𝕄 :=
  iprop(records X K ∗ levAts L lv ∗ ∃ W, owes (c : Thread nD τ) O W)

/-! ### Views of a slot -/

omit [FloatOps F] in
/-- A slot's elements are those under its rectangle. -/
theorem slot_set (a : Memref sig .tc .vmem S32x16x512 .bf16) (k : Fin 32) : (slot a k).view.set = (a.access (slotRect k)).set :=
  View.set_reshape (a.access (slotRect k)) _

/-- What a load of a slot's rectangle reads, as a page, is what the slot holds. -/
theorem page_readAt (a : Memref sig .tc .vmem S32x16x512 .bf16) (k : Fin 32) (f : a.view.ty.Contents (Elt F)) :
    page (a.view.readAt (Elt F) (slotRect k).toLoadRect f) = (slot a k).view.read (Elt F) f := rfl

/-- What a slot holds after a store of a page into its rectangle. -/
theorem read_store (a : Memref sig .tc .vmem S32x16x512 .bf16) (k : Fin 32) (f : a.view.ty.Contents (Elt F)) (p : FVec F S16x512 .bf16) :
    (slot a k).view.read (Elt F) ((a.access (slotRect k)).write (Elt F) f (unpage p) Finset.univ) = p := by
  have h := View.read_write_univ (Val := Elt F) (v := a.access (slotRect k)) f (unpage p)
  have h2 : (slot a k).view.read (Elt F) ((a.access (slotRect k)).write (Elt F) f (unpage p) Finset.univ)
      = page ((a.access (slotRect k)).read (Elt F) ((a.access (slotRect k)).write (Elt F) f (unpage p) Finset.univ)) := rfl
  rw [h2, h]
  funext x
  show p (Shape.reshapeEquiv _ (Shape.reshapeEquiv _ x)) = p x
  rw [Shape.reshapeEquiv_reshapeEquiv, Shape.reshapeEquiv_self]

/-- A slot into which a page was written whole holds that page. -/
theorem full_of_write (c : Dev nD) (a : Memref sig .tc .vmem S32x16x512 .bf16) (k : Fin 32) (f : (slot a k).view.ty.Contents (Elt F))
    (w p : FVec F S16x512 .bf16) (h : w = p) :
    ((slot a k).view.loc (c : Thread nD τ) ↦[(slot a k).view.set]{fullShare} ((slot a k).view.write (Elt F) f w Finset.univ) : sProp 𝕄)
      ⊢ full c a k p := by
  unfold full
  iintro H
  iexists ((slot a k).view.write (Elt F) f w Finset.univ)
  isplitr
  · ipureintro; rw [View.read_write_univ]; exact h
  · iexact H

/-- A slot after a store of a page into its rectangle holds that page. -/
theorem full_of_store (c : Dev nD) (a : Memref sig .tc .vmem S32x16x512 .bf16) (k : Fin 32) (f : a.view.ty.Contents (Elt F))
    (p : FVec F S16x512 .bf16) :
    ((a.access (slotRect k)).loc (c : Thread nD τ) ↦[(slot a k).view.set]{fullShare} ((a.access (slotRect k)).write (Elt F) f (unpage p) Finset.univ) : sProp 𝕄)
      ⊢ full c a k p := by
  unfold full
  iintro H
  iexists ((a.access (slotRect k)).write (Elt F) f (unpage p) Finset.univ)
  isplitr
  · ipureintro; exact read_store a k f p
  · iexact H

/-! ### The barrier -/

/-- What device `c` needs to greet peer `i`. -/
def helloNeeds (c : Dev nD) (i : Fin 31) : sProp 𝕄 :=
  iprop(dutyTok ER (barC (peer c i)) 0 (rev i) ∗ hole c aM (slotOf (rev i)) ∗ hole c gM (slotOf i))

theorem hello_turn (c : Dev nD) (i : Fin 31) (l : List (Fin 31)) :
    RunsTo c iprop(under X K c (owed0 c (i :: l)) ∗ helloNeeds c i) (hello c i) ⟨⟩ iprop(under X K c (owed0 c l) ∗ emp) := by
  intro k Q
  unfold under helloNeeds
  simp only [hello, semSignalWord, Prog.lift, Prog.bind_op, Prog.bind_ret]
  iintro ⟨⟨#HR, #HL, %W, HO⟩, Ht, Ha, Hg⟩ Hk
  iapply (Rounds.wp_signal 𝒱₀ ER (proto X) (c : Thread nD τ) none (dst := (peer c i : Thread nD τ)) (κ := K (peer c i, .inl ()))
      (d := rev i) (by rw [duties_bar]; exact Finset.mem_univ _) ((amount_bar X (peer c i) (rev i)).trans (by decide)) () (owed0 c l) rfl)
    $$ [HO Ht Ha Hg]
  · isplitr; · iapply (inv_bar X K (peer c i)); iexact HR
    isplitl [HO]; · iexact HO
    isplitl [Ht]; · iexact Ht
    isplitl [Ha Hg]
    · rw [payload_bar]; unfold barPay; rw [peer_peer, backOf_rev]
      isplitl [Ha] <;> iassumption
    · iapply (reached_bar X K (peer c i)); iexact HR
  iintro HO
  iapply Hk
  isplitl
  · isplitr; · iexact HR
    isplitr; · iexact HL
    iexists W; iexact HO
  · iempintro

theorem barrier_wait (c : Dev nD) :
    RunsTo c iprop(under X K c (owed0 c []) ∗ cred (tallyAt (barC c) () 31) ∗ atPos ER (barC c) 0 ∅ 0) (semWaitWord bar 31#32) ⟨⟩
      iprop(under X K c (owed1 c peers) ∗ atPos ER (barC c) 1 ∅ 0 ∗ bigSep Finset.univ fun j => barPay c j) := by
  intro k Q
  unfold under
  simp only [semWaitWord, Prog.lift, Prog.bind_op, Prog.bind_ret]
  iintro ⟨⟨#HR, #HL, %W, HO⟩, Hc, Hat⟩ Hk
  iapply (Rounds.wp_wait_rest_token 𝒱₀ ER (proto X) (c : Thread nD τ) none (κ := K (c, .inl ()))
      (wpE_semWait_eq 𝒱₀ (c : Thread nD τ) none Set.univ) (Set.mem_univ _) () (O := owed1 c peers) (W := W) (R := 0) (m := 0) (T := ∅)
      (by rw [expect_bar]; decide)) $$ [Hc HO Hat]
  · isplitr; · iapply (inv_bar X K c); iexact HR
    isplitl [Hc]; · iexact Hc
    isplitl [HO]; · iexact HO
    isplitr
    · iapply (mayWait c (.reg bar) (owed1 c peers) fun x u h => ⟨(owed1_lv h).1, lt_of_lt_of_le (by show 1 < 2; decide) (owed1_lv h).2⟩); iexact HL
    iexact Hat
  iintro ⟨HO, Hat, -, Hpay⟩
  ihave Hp := (Entails.of_eq (rest_bar X c)) $$ Hpay
  iapply Hk
  isplitl [HO]
  · isplitr; · iexact HR
    isplitr; · iexact HL
    iexists _; iexact HO
  isplitl [Hat] <;> iassumption

/-! ### The first exchange -/

/-- The staged input of device `c`. -/
def xPts (c : Dev nD) : sProp 𝕄 := iprop((c : Thread nD τ).loc cc0_stg0_0 ↦{fullShare} X c)

/-- What device `c` needs to send peer `i` its rows. -/
def scatterNeeds (c : Dev nD) (i : Fin 31) : sProp 𝕄 :=
  iprop(dutyTok ER (dmaC 0 c i) 0 0 ∗ dutyTok ER (dmaC 1 (peer c i) i) 0 0 ∗ hole c sM (slotOf i) ∗ hole (peer c i) aM (slotOf i))

theorem scatter_turn (c : Dev nD) (i : Fin 31) (l : List (Fin 31)) :
    RunsTo c iprop((under X K c (owed1 c (i :: l)) ∗ xPts X c) ∗ scatterNeeds c i)
      (scatter xM sM (Memref.isWhole_whole _) aM (Memref.isWhole_whole _) cc0_scratch4 cc0_scratch5 c i) ⟨⟩
      iprop((under X K c (owed1 c l) ∗ xPts X c) ∗ cred (tallyAt (dmaC 0 c i) () N)) := by
  intro k Q
  unfold under scatterNeeds xPts hole
  simp only [scatter, Prog.lift, Prog.bind_op, Prog.bind_ret]
  iintro ⟨⟨⟨#HR, #HL, %W, HO⟩, Hx⟩, Ht1, Ht2, ⟨%fs, Hs⟩, ⟨%fd, Hd⟩⟩ Hk
  iapply (wp_load 𝒱₀ (c : Thread nD τ) none Set.univ (m := xM) (Finset.subset_univ _)) $$ Hx; iintro Hx
  iapply (wp_load_rect 𝒱₀ (c : Thread nD τ) none Set.univ (m := sM) (r := slotRect (slotOf i)) (S := (slot sM (slotOf i)).view.set) (slot_set sM (slotOf i)).ge) $$ Hs; iintro Hs
  iapply (wp_store 𝒱₀ (c : Thread nD τ) none Set.univ (m := sM) (r := slotRect (slotOf i)) (Mk := Finset.univ) (S := (slot sM (slotOf i)).view.set)
    (slot_set sM (slotOf i)).ge) $$ Hs; iintro Hs
  ihave Hf := (full_of_store c sM (slotOf i) fs (page (xM.view.readAt (Elt F) (inRect c i).toLoadRect (X c)))) $$ Hs
  unfold full
  icases Hf with ⟨%g, %hg, Hs⟩
  iapply (Rounds.wp_send_pointsTo 𝒱₀ ER (proto X) (c : Thread nD τ) none (κ₁ := K (c, .inr (0, i))) (κ₂ := K (peer c i, .inr (1, i)))
    (c' := (peer c i : Thread nD τ)) (src := slot sM (slotOf i)) (dst := slot aM (slotOf i))
    (sS := .dma (sm 0 i)) (sem := .dma (sm 1 i))
    (r₁ := 0) (r₂ := 0) (d₁ := 0) (d₂ := 0) (fs := g) (fd := fd)
    (by rw [duties_dma]; exact Finset.mem_singleton_self _) (by rw [duties_dma]; exact Finset.mem_singleton_self _)
    () () N rfl (amount_dma X c 0 i 0) (amount_dma X (peer c i) 1 i 0) (owed1 c l) rfl (W := W)
    (by rw [payload_dma]; unfold dmaPay hole; dsimp only; iintro H; iexists g; iexact H)
    (by
      rw [payload_dma]; unfold dmaPay; dsimp only
      exact full_of_write (peer c i) aM (slotOf i) fd _ _ (by rw [hg]; unfold got; rw [peer_peer]; rfl))) $$ [Hs Hd HO Ht1 Ht2]
  · isplitr; · iapply (inv_dma X K 0 c i); iexact HR
    isplitr; · iapply (inv_dma X K 1 (peer c i) i); iexact HR
    isplitl [Hs]; · iexact Hs
    isplitl [Hd]; · iexact Hd
    isplitl [HO]; · iexact HO
    isplitl [Ht1]; · iexact Ht1
    isplitr; · iapply (reached_dma X K 0 c i); iexact HR
    isplitl [Ht2]; · iexact Ht2
    iapply (reached_dma X K 1 (peer c i) i); iexact HR
  iintro ⟨Hc, HO⟩
  iapply Hk
  isplitl [HO Hx]
  · isplitl [HO]
    · isplitr; · iexact HR
      isplitr; · iexact HL
      iexists W; iexact HO
    · iexact Hx
  · iexact Hc

/-- A wait on a semaphore of a copy: the round's payload is handed over. -/
theorem wp_landed {c : Dev nD} {a : Fin 4} {i : Fin 31} {O : CellTallies nD τ sig Unit} {sp sp' : Space} {s s' : Shape} {e e' : EltTy}
    {src : Memref sig .tc sp' s' e'} {dst : Memref sig .tc sp s e} {hsrc : src.view.WordExact} {hdst : dst.view.WordExact}
    (hN : dst.view.dmaCredit = N)
    (hO : ∀ (x : GSem nD τ sig) (u : Unit), 0 < O x u → x.1.2 = .tc ∧ lv (dmaC a c i) () < lv x u)
    (k : PUnit → P F PUnit) (Q : PUnit → sProp 𝕄) :
    iprop(under X K c O ∗ cred (tallyAt (dmaC a c i) () N) ∗ atPos ER (dmaC a c i) 0 ∅ 0)
      ⊢ iprop(((under X K c O ∗ atPos ER (dmaC a c i) 1 ∅ 0 ∗ dmaPay X c a i) -∗ WP c (k ⟨⟩) Q)
          -∗ WP c (.op (.waitDma2 (sm a i) src dst hsrc hdst) k) Q) := by
  unfold under
  iintro ⟨⟨#HR, #HL, %W, HO⟩, Hc, Hat⟩ Hk
  iapply (Rounds.wp_wait_rest_token 𝒱₀ ER (proto X) (c : Thread nD τ) none (κ := K (c, .inr (a, i))) (sm := .dma (sm a i)) (k' := dst.view.dmaCredit)
      (wpE_waitDma2_eq 𝒱₀ (c : Thread nD τ) none Set.univ) (Set.mem_univ _) () (O := O) (W := W) (R := 0) (m := 0) (T := ∅)
      (by rw [expect_dma, hN, Nat.zero_add])) $$ [Hc HO Hat]
  · isplitr; · iapply (inv_dma X K a c i); iexact HR
    isplitl [Hc]; · rw [hN]; iexact Hc
    isplitl [HO]; · iexact HO
    isplitr; · iapply (mayWait c (.dma (sm a i)) O hO); iexact HL
    iexact Hat
  iintro ⟨HO, Hat, -, Hpay⟩
  ihave Hp := (Entails.of_eq (rest_dma X c a i)) $$ Hpay
  iapply Hk
  isplitl [HO]
  · isplitr; · iexact HR
    isplitr; · iexact HL
    iexists _; iexact HO
  isplitl [Hat] <;> iassumption

/-- What device `c` needs to take in the block in slot `i`, and what it has then. -/
def gatherNeeds (c : Dev nD) (i : Fin 31) : sProp 𝕄 := iprop(cred (tallyAt (dmaC 1 c i) () N) ∗ atPos ER (dmaC 1 c i) 0 ∅ 0)
def gatherLeaves (c : Dev nD) (i : Fin 31) : sProp 𝕄 := iprop(atPos ER (dmaC 1 c i) 1 ∅ 0 ∗ hole c aM (slotOf i))

theorem gather_turn (c : Dev nD) (i : Fin 31) (l : List (Fin 31)) (s : FVec F S16x512 .f32) :
    RunsTo c iprop(under X K c (owed2 c peers) ∗ gatherNeeds c i)
      (gatherAdd sM (Memref.isWhole_whole _) aM (Memref.isWhole_whole _) cc0_scratch5 i s) (accPage s (got X c i))
      iprop(under X K c (owed2 c peers) ∗ gatherLeaves c i) := by
  intro k Q
  unfold gatherNeeds gatherLeaves
  simp only [gatherAdd, Prog.lift, Prog.bind_op, Prog.bind_ret]
  iintro ⟨HU, Hc, Hat⟩ Hk
  iapply (wp_landed X K (a := 1) (i := i) (src := slot sM (slotOf i)) (dst := slot aM (slotOf i)) rfl
    (fun x u h => ⟨(owed2_lv h).1, lt_of_lt_of_le (by unfold lv; rw [tag_sm]; show 2 < 3; decide) (owed2_lv h).2⟩)) $$ [HU Hc Hat]
  · isplitl [HU]; · iexact HU
    isplitl [Hc] <;> iassumption
  iintro ⟨HU, Hat, Hp⟩
  unfold dmaPay full
  icases Hp with ⟨%f, %hf, Hp⟩
  iapply (wp_load_rect 𝒱₀ (c : Thread nD τ) none Set.univ (m := aM) (r := slotRect (slotOf i)) (S := (slot aM (slotOf i)).view.set) (slot_set aM (slotOf i)).ge) $$ Hp; iintro Hp
  have hv : accAdd s ((aM.access (slotRect (slotOf i))).read (Elt F) f) = accPage s (got X c i) := by rw [← hf]; rfl
  rw [hv]
  iapply Hk
  isplitl [HU]; · iexact HU
  isplitl [Hat]; · iexact Hat
  unfold hole; iexists f; iexact Hp

/-! ### The second exchange -/

/-- What device `c` needs to send peer `i` its reduced rows. -/
def spreadNeeds (c : Dev nD) (i : Fin 31) : sProp 𝕄 :=
  iprop(dutyTok ER (dmaC 2 c i) 0 0 ∗ dutyTok ER (dmaC 3 (peer c i) i) 0 0 ∗ redPts c (shareTok fullShare 31 i) (red X c) ∗ hole (peer c i) gM (backOf i))

theorem spread_turn (c : Dev nD) (i : Fin 31) (l : List (Fin 31)) :
    RunsTo c iprop(under X K c (owed2 c (i :: l)) ∗ spreadNeeds X c i)
      (spread gM (Memref.isWhole_whole _) rM (Memref.isWhole_whole _) cc0_scratch6 cc0_scratch7 c i) ⟨⟩
      iprop(under X K c (owed2 c l) ∗ cred (tallyAt (dmaC 2 c i) () N)) := by
  intro k Q
  unfold under spreadNeeds hole
  simp only [spread, Prog.lift, Prog.bind_op, Prog.bind_ret]
  iintro ⟨⟨#HR, #HL, %W, HO⟩, Ht1, Ht2, Hs, ⟨%fd, Hd⟩⟩ Hk
  unfold redPts
  iapply (Rounds.wp_send_pointsTo 𝒱₀ ER (proto X) (c : Thread nD τ) none (κ₁ := K (c, .inr (2, i))) (κ₂ := K (peer c i, .inr (3, i)))
    (c' := (peer c i : Thread nD τ)) (src := rM) (dst := slot gM (backOf i))
    (sS := .dma (sm 2 i)) (sem := .dma (sm 3 i))
    (r₁ := 0) (r₂ := 0) (d₁ := 0) (d₂ := 0) (fd := fd)
    (by rw [duties_dma]; exact Finset.mem_singleton_self _) (by rw [duties_dma]; exact Finset.mem_singleton_self _)
    () () N rfl (amount_dma X c 2 i 0) (amount_dma X (peer c i) 3 i 0) (owed2 c l) rfl (W := W)
    (by rw [payload_dma]; unfold dmaPay redPts; exact BI.Entails.refl _)
    (by
      rw [payload_dma]; unfold dmaPay; dsimp only; rw [peer_peer]
      exact full_of_write (peer c i) gM (backOf i) fd _ _ rfl)) $$ [Hs Hd HO Ht1 Ht2]
  · isplitr; · iapply (inv_dma X K 2 c i); iexact HR
    isplitr; · iapply (inv_dma X K 3 (peer c i) i); iexact HR
    isplitl [Hs]; · iexact Hs
    isplitl [Hd]; · iexact Hd
    isplitl [HO]; · iexact HO
    isplitl [Ht1]; · iexact Ht1
    isplitr; · iapply (reached_dma X K 2 c i); iexact HR
    isplitl [Ht2]; · iexact Ht2
    iapply (reached_dma X K 3 (peer c i) i); iexact HR
  iintro ⟨Hc, HO⟩
  iapply Hk
  isplitl [HO]
  · isplitr; · iexact HR
    isplitr; · iexact HL
    iexists W; iexact HO
  · iexact Hc

/-- What device `c` needs to take in the reduced rows of the device that has it as peer `i`, and what it has then. -/
def awaitNeeds (c : Dev nD) (i : Fin 31) : sProp 𝕄 := iprop(cred (tallyAt (dmaC 3 c i) () N) ∗ atPos ER (dmaC 3 c i) 0 ∅ 0)
def awaitLeaves (c : Dev nD) (i : Fin 31) : sProp 𝕄 := iprop(atPos ER (dmaC 3 c i) 1 ∅ 0 ∗ full c gM (backOf i) (red X (peer c (rev i))))

theorem await_turn (c : Dev nD) (i : Fin 31) (l : List (Fin 31)) :
    RunsTo c iprop(under X K c 0 ∗ awaitNeeds c i)
      (await gM (Memref.isWhole_whole _) rM (Memref.isWhole_whole _) cc0_scratch7 i) ⟨⟩
      iprop(under X K c 0 ∗ awaitLeaves X c i) := by
  intro k Q
  unfold awaitNeeds awaitLeaves
  simp only [await, Prog.lift, Prog.bind_op, Prog.bind_ret]
  exact wp_landed X K (a := 3) (i := i) (O := 0) (src := rM) (dst := slot gM (backOf i)) rfl (fun x u h => absurd h (Nat.lt_irrefl 0)) k Q

/-- What device `c` needs to see its copies to peer `i` off, and what it has then. -/
def drainNeeds (c : Dev nD) (i : Fin 31) : sProp 𝕄 :=
  iprop((cred (tallyAt (dmaC 0 c i) () N) ∗ atPos ER (dmaC 0 c i) 0 ∅ 0) ∗ cred (tallyAt (dmaC 2 c i) () N) ∗ atPos ER (dmaC 2 c i) 0 ∅ 0)
def drainLeaves (c : Dev nD) (i : Fin 31) : sProp 𝕄 :=
  iprop((atPos ER (dmaC 0 c i) 1 ∅ 0 ∗ hole c sM (slotOf i)) ∗ atPos ER (dmaC 2 c i) 1 ∅ 0 ∗ redPts c (shareTok fullShare 31 i) (red X c))

theorem drain_turn (c : Dev nD) (i : Fin 31) (l : List (Fin 31)) :
    RunsTo c iprop(under X K c 0 ∗ drainNeeds c i)
      (drain sM (Memref.isWhole_whole _) aM (Memref.isWhole_whole _) gM (Memref.isWhole_whole _) rM (Memref.isWhole_whole _) cc0_scratch4 cc0_scratch6 i) ⟨⟩
      iprop(under X K c 0 ∗ drainLeaves X c i) := by
  intro k Q
  unfold drainNeeds drainLeaves
  simp only [drain, Prog.lift, Prog.bind_op, Prog.bind_ret]
  iintro ⟨HU, ⟨Hc0, Hat0⟩, Hc2, Hat2⟩ Hk
  iapply (wp_landed X K (a := 0) (i := i) (O := 0) (src := slot aM (slotOf i)) (dst := slot sM (slotOf i)) rfl (fun x u h => absurd h (Nat.lt_irrefl 0))) $$ [HU Hc0 Hat0]
  · isplitl [HU]; · iexact HU
    isplitl [Hc0] <;> iassumption
  iintro ⟨HU, Hat0, Hp0⟩
  iapply (wp_landed X K (a := 2) (i := i) (O := 0) (src := slot gM (backOf i)) (dst := rM) rfl (fun x u h => absurd h (Nat.lt_irrefl 0))) $$ [HU Hc2 Hat2]
  · isplitl [HU]; · iexact HU
    isplitl [Hc2] <;> iassumption
  iintro ⟨HU, Hat2, Hp2⟩
  iapply Hk
  isplitl [HU]; · iexact HU
  isplitl [Hat0 Hp0]
  · isplitl [Hat0]; · iexact Hat0
    iapply (Entails.of_eq (show dmaPay X c 0 i = hole c sM (slotOf i) from rfl)); iexact Hp0
  · isplitl [Hat2]; · iexact Hat2
    iapply (Entails.of_eq (show dmaPay X c 2 i = redPts c (shareTok fullShare 31 i) (red X c) from rfl)); iexact Hp2

end Cert.TreeRed

end
-- ==== Proof.Place.lean ====
/-
# `Place`: the rows a device keeps and the rows of the result

The loop turns that only touch a device's own buffers: keeping the rounded sum, and copying sixteen
rows at a time into the result.
-/
module

public import proofs.«01_k».proof.Proof.Exchange

@[expose] public section

noncomputable section

namespace Cert.TreeRed

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (X : Dev nD → Vec F S1x512x512 .bf16)

/-! ### Bands of the result -/

/-- The device that computes the row of the result that `x` lies in. -/
def rowDev (x : S512x512.Idx) : Dev nD := ⟨(x 0).val / 16, by have h : (x 0).val < 512 := (x 0).isLt; show _ < 32; omega⟩
/-- Where `x` lies among that device's sixteen rows. -/
def rowIn (x : S512x512.Idx) : S16x512.Idx := fun | ⟨0, _⟩ => ⟨(x 0).val % 16, Nat.mod_lt _ (by decide)⟩ | ⟨1, _⟩ => x 1

theorem outAt_apply (x : S512x512.Idx) : outAt X x = red X (rowDev x) (rowIn x) := rfl

/-- An element under the rectangle of a device's rows lies in that device's rows. -/
theorem mem_band (d : Dev nD) {off : Fin 2 → ℕ} (h : off = ![16 * d.val, 0]) (inb) (x : S512x512.Idx) :
    x ∈ (Rect.unit (s := S512x512) off S16x512.size inb).set ↔ rowDev x = d := by
  subst h
  have hx : (x 0).val < 512 := (x 0).isLt
  have hy : (x 1).val < 512 := (x 1).isLt
  rw [Rect.mem_set_unit]
  constructor
  · intro H
    have h0 := H 0
    have h1 : 16 * d.val ≤ (x 0).val := h0.1
    have h2 : (x 0).val < 16 * d.val + 16 := h0.2
    apply Fin.ext
    show (x 0).val / 16 = d.val
    omega
  · intro H a
    have hd : (x 0).val / 16 = d.val := congrArg Fin.val H
    match a with
    | ⟨0, _⟩ => exact ⟨show 16 * d.val ≤ (x 0).val by omega, show (x 0).val < 16 * d.val + 16 by omega⟩
    | ⟨1, _⟩ => exact ⟨Nat.zero_le _, show (x 1).val < 0 + 512 by omega⟩

/-- The place of the element `x` of a device's rows. -/
theorem emb_band {off : Fin 2 → ℕ} (x : S512x512.Idx) (h : off = ![16 * (rowDev x).val, 0]) (inb) :
    (Rect.unit (s := S512x512) off S16x512.size inb).emb (rowIn x) = x := by
  subst h
  funext a
  apply Fin.ext
  rw [Rect.emb_apply]
  match a with
  | ⟨0, _⟩ => show 16 * ((x 0).val / 16) + 1 * ((x 0).val % 16) = (x 0).val; omega
  | ⟨1, _⟩ => show 0 + 1 * (x 1).val = (x 1).val; omega

omit [FloatOps F] in
/-- The result buffer after sixteen rows are written over. -/
theorem write_band (d : Dev nD) {off : Fin 2 → ℕ} (h : off = ![16 * d.val, 0]) (inb) (f : Vec F S512x512 .bf16) (p : FVec F S16x512 .bf16)
    (x : S512x512.Idx) :
    (rowDev x = d → (oM.access (Rect.unit (s := S512x512) off S16x512.size inb)).write (Elt F) f p Finset.univ x = p (rowIn x))
    ∧ (rowDev x ≠ d → (oM.access (Rect.unit (s := S512x512) off S16x512.size inb)).write (Elt F) f p Finset.univ x = f x) := by
  constructor
  · intro hx
    subst hx
    have e := View.write_emb_of_mem (Val := Elt F) (v := oM.access (Rect.unit (s := S512x512) off S16x512.size inb)) f p
      (M := Finset.univ) (x := rowIn x) (Finset.mem_univ _)
    have e2 : (oM.access (Rect.unit (s := S512x512) off S16x512.size inb)).emb (rowIn x) = x := emb_band x h inb
    rw [e2] at e
    exact e
  · intro hx
    refine View.write_of_not_mem (Val := Elt F) (v := oM.access (Rect.unit (s := S512x512) off S16x512.size inb)) f p Finset.univ ?_
    show x ∉ (oM.access (Rect.unit (s := S512x512) off S16x512.size inb)).set
    rw [show (oM.access (Rect.unit (s := S512x512) off S16x512.size inb)).set = (Rect.unit (s := S512x512) off S16x512.size inb).set from
      View.set_slice_whole cc0_stg1_0 _, mem_band d h]
    exact hx

/-- Every device but `c` is a peer of `c`. -/
theorem peer_of_ne {c d : Dev nD} (h : d ≠ c) : ∃ i : Fin 31, peer c i = d := by
  have hc : c.val < 32 := c.isLt
  have hd : d.val < 32 := d.isLt
  have hne : d.val ≠ c.val := fun e => h (Fin.ext e)
  refine ⟨⟨(d.val + 31 - c.val) % 32, by omega⟩, Fin.ext ?_⟩
  rw [peer_val]
  show (c.val + (d.val + 31 - c.val) % 32 + 1) % 32 = d.val
  omega

/-- The result buffer of device `c`, right on the rows of every device but the listed peers. -/
def outPts (c : Dev nD) (l : List (Fin 31)) : sProp 𝕄 :=
  iprop(∃ f : Vec F S512x512 .bf16, ⌜∀ x, (∀ i ∈ l, rowDev x ≠ peer c i) → f x = outAt X x⌝ ∗ ((c : Thread nD τ).loc cc0_stg1_0 ↦{fullShare} f))

theorem place_turn (c : Dev nD) (i : Fin 31) (l : List (Fin 31)) :
    RunsTo c iprop(outPts X c (i :: l) ∗ full c gM (slotOf i) (red X (peer c i)))
      (place oM (Memref.isWhole_whole _) gM c i) ⟨⟩
      iprop(outPts X c l ∗ hole c gM (slotOf i)) := by
  intro k Q
  unfold outPts full
  simp only [place, Prog.lift, Prog.bind_op, Prog.bind_ret]
  iintro ⟨⟨%f, %hf, Ho⟩, %g, %hg, Hg⟩ Hk
  iapply (wp_load_rect 𝒱₀ (c : Thread nD τ) none Set.univ (m := gM) (r := slotRect (slotOf i)) (S := (slot gM (slotOf i)).view.set)
    (slot_set gM (slotOf i)).ge) $$ Hg; iintro Hg
  iapply (wp_load 𝒱₀ (c : Thread nD τ) none Set.univ (m := oM) (Finset.subset_univ _)) $$ Ho; iintro Ho
  iapply (wp_store 𝒱₀ (c : Thread nD τ) none Set.univ (m := oM) (r := outRect c i) (Mk := Finset.univ) (Finset.subset_univ _)) $$ Ho; iintro Ho
  iapply Hk
  isplitl [Ho]
  · iexists ((oM.access (outRect c i)).write (Elt F) f (page ((gM.access (slotRect (slotOf i))).read (Elt F) g)) Finset.univ)
    isplitr
    · ipureintro
      intro x hx
      have hp : page ((gM.access (slotRect (slotOf i))).read (Elt F) g) = red X (peer c i) := hg
      rw [hp]
      have hoff : k0_off4 c (BitVec.ofNat 32 (1 + i.val)) = ![16 * (peer c i).val, 0] := by rw [k0_off4_eq, peer_val]
      have hw := write_band (peer c i) hoff (k0_off4_inb c i) f (red X (peer c i)) x
      by_cases hd : rowDev x = peer c i
      · exact (hw.1 hd).trans (by rw [outAt_apply, hd])
      · refine (hw.2 hd).trans (hf x fun j hj => ?_)
        rcases List.mem_cons.1 hj with rfl | hj
        · exact hd
        · exact hx j hj
    · iexact Ho
  · unfold hole; iexists g; iexact Hg

/-- The buffer of the reduced rows, at some contents. -/
def redAny (c : Dev nD) : sProp 𝕄 := iprop(∃ f : FVec F S16x512 .bf16, (c : Thread nD τ).loc cc0_scratch3 ↦{fullShare} f)

omit [FloatOps F] in
theorem redPts_eq (c : Dev nD) (q : PosShare TreeShare) (p : FVec F S16x512 .bf16) :
    redPts c q p = ((c : Thread nD τ).loc cc0_scratch3 ↦{q} p : sProp 𝕄) := by
  unfold redPts
  rw [show (rM.view.set : Finset (Idx (rM.view.loc (c : Thread nD τ)))) = Finset.univ from View.set_whole cc0_scratch3]

theorem keep_runs (c : Dev nD) (a : FVec F S16x512 .f32) :
    RunsTo c (redAny (F := F) c) (keep rM (Memref.isWhole_whole _) a) ⟨⟩ (redPts c fullShare (narrow a)) := by
  intro k Q
  rw [redPts_eq]
  unfold redAny
  simp only [keep, Prog.lift, Prog.bind_op, Prog.bind_ret]
  iintro ⟨%f, Hr⟩ Hk
  iapply (wp_load 𝒱₀ (c : Thread nD τ) none Set.univ (m := rM) (Finset.subset_univ _)) $$ Hr; iintro Hr
  iapply (wp_store 𝒱₀ (c : Thread nD τ) none Set.univ (m := rM) (r := redRect) (Mk := Finset.univ) (Finset.subset_univ _)) $$ Hr; iintro Hr
  have hw : (rM.access redRect).write (Elt F) f (narrow a) Finset.univ = narrow a :=
    Memref.write_access_unit_zero_univ (Elt F) cc0_scratch3 (by decide) inb_S16x512_S16x512_0_0 f (narrow a)
  rw [hw]
  iapply Hk
  iexact Hr

/-- Copying the kept rows in makes the device's own rows right. -/
theorem placeOwn_runs (c : Dev nD) (q : PosShare TreeShare) :
    RunsTo c iprop((∃ f : Vec F S512x512 .bf16, (c : Thread nD τ).loc cc0_stg1_0 ↦{fullShare} f) ∗ redPts c q (red X c))
      (placeOwn oM (Memref.isWhole_whole _) rM c) ⟨⟩ iprop(outPts X c peers ∗ redPts c q (red X c)) := by
  intro k Q
  rw [redPts_eq]
  unfold outPts
  simp only [placeOwn, Prog.lift, Prog.bind_op, Prog.bind_ret]
  iintro ⟨⟨%f, Ho⟩, Hr⟩ Hk
  iapply (wp_load 𝒱₀ (c : Thread nD τ) none Set.univ (m := rM) (Finset.subset_univ _)) $$ Hr; iintro Hr
  have hv : rM.view.readAt (Elt F) redRect.toLoadRect (red X c) = red X c :=
    Memref.readAt_unit_zero (Elt F) cc0_scratch3 (by decide) inb_S16x512_S16x512_0_0 (red X c)
  rw [hv]
  iapply (wp_load 𝒱₀ (c : Thread nD τ) none Set.univ (m := oM) (Finset.subset_univ _)) $$ Ho; iintro Ho
  iapply (wp_store 𝒱₀ (c : Thread nD τ) none Set.univ (m := oM) (r := outOwn c) (Mk := Finset.univ) (Finset.subset_univ _)) $$ Ho; iintro Ho
  iapply Hk
  isplitl [Ho]
  · iexists ((oM.access (outOwn c)).write (Elt F) f (red X c) Finset.univ)
    isplitr
    · ipureintro
      intro x hx
      have hw := write_band c (k0_off3_eq c) (k0_off3_inb c) f (red X c) x
      have hd : rowDev x = c := by
        by_contra hne
        obtain ⟨i, hi⟩ := peer_of_ne hne
        exact hx i (mem_peers i) hi.symm
      exact (hw.1 hd).trans (by rw [outAt_apply, hd])
    · iexact Ho
  · iexact Hr

end Cert.TreeRed

end
-- ==== Proof.Slots.lean ====
/-
# `Slots`: a buffer of thirty-two slots, cut up and put back together

Slot 0 is not used by the exchange; slots `1 + i` are. Nothing here runs.
-/
module

public import proofs.«01_k».proof.Proof.Place

@[expose] public section

noncomputable section

namespace Cert.TreeRed

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

/-- An element lies in slot `k` when its first coordinate is `k`. -/
theorem mem_slotRect (k : Fin 32) (x : S32x16x512.Idx) : x ∈ (slotRect k).set ↔ (x 0).val = k.val := by
  rw [Rect.mem_set_unit]
  have h1 : (x 1).val < 16 := (x 1).isLt
  have h2 : (x 2).val < 512 := (x 2).isLt
  constructor
  · intro H
    have a : k.val ≤ (x 0).val := (H 0).1
    have b : (x 0).val < k.val + 1 := (H 0).2
    omega
  · intro H a
    match a with
    | ⟨0, _⟩ => exact ⟨show k.val ≤ (x 0).val by omega, show (x 0).val < k.val + 1 by omega⟩
    | ⟨1, _⟩ => exact ⟨Nat.zero_le _, show (x 1).val < 0 + 16 by omega⟩
    | ⟨2, _⟩ => exact ⟨Nat.zero_le _, show (x 2).val < 0 + 512 by omega⟩

/-- The elements of slot `k`. -/
def slotEls (a : Memref sig .tc .vmem S32x16x512 .bf16) (k : Fin 32) : Finset a.view.ty.Idx := (slotRect k).set.map a.view.emb

theorem slot_els (a : Memref sig .tc .vmem S32x16x512 .bf16) (k : Fin 32) : (slot a k).view.set = slotEls a k :=
  (View.set_reshape (a.access (slotRect k)) _).trans (View.set_slice a.view (slotRect k))

theorem slots_disjoint (a : Memref sig .tc .vmem S32x16x512 .bf16) (k k' : Fin 32) (h : k ≠ k') :
    Disjoint (slotEls a k) (slotEls a k') := by
  unfold slotEls
  rw [Finset.disjoint_map, Finset.disjoint_left]
  intro x hx hx'
  exact h (Fin.ext (((mem_slotRect k x).1 hx).symm.trans ((mem_slotRect k' x).1 hx')))

theorem slots_cover (a : Memref sig .tc .vmem S32x16x512 .bf16) (ha : a.view.set = Finset.univ) :
    (Finset.univ : Finset (Fin 32)).biUnion (slotEls a) = Finset.univ := by
  refine Finset.eq_univ_iff_forall.2 fun y => ?_
  have hy : y ∈ a.view.set := ha ▸ Finset.mem_univ y
  obtain ⟨x, -, rfl⟩ := Finset.mem_map.1 hy
  refine Finset.mem_biUnion.2 ⟨(⟨(x 0).val, (x 0).isLt⟩ : Fin 32), Finset.mem_univ _, ?_⟩
  exact Finset.mem_map_of_mem _ ((mem_slotRect _ x).2 rfl)

omit [FloatOps F] in
/-- A slot at some contents, by its elements. -/
theorem hole_els (c : Dev nD) (a : Memref sig .tc .vmem S32x16x512 .bf16) (k : Fin 32) :
    (hole c a k : sProp 𝕄) = iprop(∃ f, a.view.loc (c : Thread nD τ) ↦[slotEls a k]{fullShare} f) := by
  unfold hole
  rw [slot_els]

theorem slotOf_injective : Function.Injective slotOf := by decide
theorem slots_univ : (Finset.univ : Finset (Fin 32)) = insert 0 (Finset.univ.map ⟨slotOf, slotOf_injective⟩) := by decide
theorem zero_not_slot : (0 : Fin 32) ∉ (Finset.univ : Finset (Fin 31)).map ⟨slotOf, slotOf_injective⟩ := by decide

omit [FloatOps F] in
/-- The slots one by one: slot 0, then those of the exchange. -/
theorem over_slots (Φ : Fin 32 → sProp 𝕄) : bigSep Finset.univ Φ = iprop(Φ 0 ∗ bigSep Finset.univ fun i : Fin 31 => Φ (slotOf i)) := by
  rw [slots_univ, BI.bigSep_insert zero_not_slot, bigSep_map]
  rfl

omit [FloatOps F] in
theorem slots_split (c : Dev nD) (a : Memref sig .tc .vmem S32x16x512 .bf16) (ha : a.view.set = Finset.univ) (f : Buf (Elt F) (a.view.loc (c : Thread nD τ))) :
    (a.view.loc (c : Thread nD τ) ↦{fullShare} f : sProp 𝕄) ⊢ iprop(hole c a 0 ∗ bigSep Finset.univ fun i : Fin 31 => hole c a (slotOf i)) := by
  have h := Ring.pointsTo_blocks (Ix := Unit) (Name := ℕ) (U := UU) (Lvl := ℕ) (Val := Elt F) (ℓ := a.view.loc (c : Thread nD τ)) (q := fullShare)
    (slotEls a) (slots_disjoint a) (slots_cover a ha) f
  rw [h, ← over_slots (fun k => hole c a k)]
  refine bigSep_mono fun k _ => ?_
  show (_ : sProp 𝕄) ⊢ hole c a k
  rw [hole_els]
  iintro H
  iexists f
  iexact H

omit [FloatOps F] in
theorem slots_join (c : Dev nD) (a : Memref sig .tc .vmem S32x16x512 .bf16) (ha : a.view.set = Finset.univ) (f₀ : Buf (Elt F) (a.view.loc (c : Thread nD τ))) :
    iprop(hole c a 0 ∗ bigSep Finset.univ fun i : Fin 31 => hole c a (slotOf i)) ⊢ (iprop(∃ g, a.view.loc (c : Thread nD τ) ↦{fullShare} g) : sProp 𝕄) := by
  rw [← over_slots (fun k => hole c a k)]
  simp only [hole_els]
  exact Ring.pointsTo_blocks_join_exists (Ix := Unit) (Name := ℕ) (U := UU) (Lvl := ℕ) (Val := Elt F) (ℓ := a.view.loc (c : Thread nD τ)) (q := fullShare)
    (slotEls a) (slots_disjoint a) (slots_cover a ha) f₀

omit [FloatOps F] in
/-- A family over the peers, taken the other way round. -/
theorem flipped (Φ : Fin 31 → sProp 𝕄) : bigSep Finset.univ Φ = bigSep Finset.univ fun i => Φ (rev i) :=
  bigSep_univ_equiv flip Φ

end Cert.TreeRed

end
-- ==== Proof.Phases.lean ====
/-
# `Phases`: the loops of the body

Each loop over all the peers, from its turns (`Exchange`, `Place`), with what it takes and leaves as
families over the peers.
-/
module

public import proofs.«01_k».proof.Proof.Slots

@[expose] public section

noncomputable section

namespace Cert.TreeRed

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (X : Dev nD → Vec F S1x512x512 .bf16) (K : Dev nD × Cid → ℕ)

/-- A run from more, leaving less. -/
theorem runs_from {α : Type} {c : Dev nD} {p : P F α} {a : α} {pre pre' post post' : sProp 𝕄} (hpre : pre ⊢ pre') (h : RunsTo c pre' p a post')
    (hpost : post' ⊢ post) : RunsTo c pre p a post := by
  intro k Q
  iintro H Hk
  ihave H' := hpre $$ H
  iapply (h k Q) $$ H'
  iintro H
  iapply Hk
  iapply hpost
  iexact H

/-- A loop over all the peers. -/
theorem each_peer {c : Dev nD} {f : Fin 31 → P F PUnit} {St : List (Fin 31) → sProp 𝕄} {A B : Fin 31 → sProp 𝕄}
    (h : ∀ i l, RunsTo c iprop(St (i :: l) ∗ A i) (f i) ⟨⟩ iprop(St l ∗ B i)) :
    RunsTo c iprop(St peers ∗ bigSep Finset.univ A) (each f peers) ⟨⟩ iprop(St [] ∗ bigSep Finset.univ B) := by
  rw [over_peers, over_peers]
  exact each_runs h peers

theorem hello_runs (c : Dev nD) :
    RunsTo c iprop(under X K c (owed0 c peers) ∗ bigSep Finset.univ (helloNeeds (F := F) c)) (each (hello c) peers) ⟨⟩ (under X K c (owed0 c [])) :=
  runs_from (Entails.of_eq rfl) (each_peer (St := fun l => under X K c (owed0 c l)) (B := fun _ => iprop(emp)) fun i l => hello_turn X K c i l)
    (by iintro ⟨H, -⟩; iexact H)

theorem scatter_runs (c : Dev nD) :
    RunsTo c iprop((under X K c (owed1 c peers) ∗ xPts X c) ∗ bigSep Finset.univ (scatterNeeds (F := F) c))
      (each (scatter xM sM (Memref.isWhole_whole _) aM (Memref.isWhole_whole _) cc0_scratch4 cc0_scratch5 c) peers) ⟨⟩
      iprop((under X K c (owed2 c peers) ∗ xPts X c) ∗ bigSep Finset.univ fun i => cred (tallyAt (dmaC 0 c i) () N)) :=
  each_peer (St := fun l => iprop(under X K c (owed1 c l) ∗ xPts X c)) fun i l => scatter_turn X K c i l

/-- The kept block is read. -/
theorem own_runs (c : Dev nD) :
    RunsTo c (xPts X c) (Prog.lift (.load xM (ownRect c).toLoadRect (View.loadsAt_vmem h_S1x16x512))) (kept X c) (xPts X c) := by
  intro k Q
  unfold xPts
  simp only [Prog.lift, Prog.bind_op, Prog.bind_ret]
  iintro Hx Hk
  iapply (wp_load 𝒱₀ (c : Thread nD τ) none Set.univ (m := xM) (Finset.subset_univ _)) $$ Hx; iintro Hx
  iapply Hk
  iexact Hx

theorem gather_runs (c : Dev nD) :
    RunsTo c iprop(under X K c (owed2 c peers) ∗ bigSep Finset.univ (gatherNeeds (F := F) c))
      (fold (gatherAdd sM (Memref.isWhole_whole _) aM (Memref.isWhole_whole _) cc0_scratch5) peers (acc0 (kept X c))) (accOf X c peers)
      iprop(under X K c (owed2 c peers) ∗ bigSep Finset.univ (gatherLeaves c)) := by
  rw [over_peers, over_peers]
  exact fold_runs (St := fun _ => under X K c (owed2 c peers)) (g := fun a i => accPage a (got X c i)) (fun i l a => gather_turn X K c i l a) peers (acc0 (kept X c))

theorem spread_runs (c : Dev nD) :
    RunsTo c iprop(under X K c (owed2 c peers) ∗ bigSep Finset.univ (spreadNeeds X c))
      (each (spread gM (Memref.isWhole_whole _) rM (Memref.isWhole_whole _) cc0_scratch6 cc0_scratch7 c) peers) ⟨⟩
      iprop(under X K c 0 ∗ bigSep Finset.univ fun i => cred (tallyAt (dmaC 2 c i) () N)) :=
  each_peer (St := fun l => under X K c (owed2 c l)) fun i l => spread_turn X K c i l

theorem await_runs (c : Dev nD) :
    RunsTo c iprop(under X K c 0 ∗ bigSep Finset.univ (awaitNeeds (F := F) c))
      (each (await gM (Memref.isWhole_whole _) rM (Memref.isWhole_whole _) cc0_scratch7) peers) ⟨⟩
      iprop(under X K c 0 ∗ bigSep Finset.univ (awaitLeaves X c)) :=
  each_peer (St := fun _ => under X K c 0) fun i l => await_turn X K c i l

theorem place_runs (c : Dev nD) :
    RunsTo c iprop(outPts X c peers ∗ bigSep Finset.univ fun i => full c gM (slotOf i) (red X (peer c i)))
      (each (place oM (Memref.isWhole_whole _) gM c) peers) ⟨⟩
      iprop(outPts X c [] ∗ bigSep Finset.univ fun i => hole c gM (slotOf i)) :=
  each_peer (St := fun l => outPts X c l) fun i l => place_turn X c i l

theorem drain_runs (c : Dev nD) :
    RunsTo c iprop(under X K c 0 ∗ bigSep Finset.univ (drainNeeds (F := F) c))
      (each (drain sM (Memref.isWhole_whole _) aM (Memref.isWhole_whole _) gM (Memref.isWhole_whole _) rM (Memref.isWhole_whole _) cc0_scratch4 cc0_scratch6) peers) ⟨⟩
      iprop(under X K c 0 ∗ bigSep Finset.univ (drainLeaves X c)) :=
  each_peer (St := fun _ => under X K c 0) fun i l => drain_turn X K c i l

/-! ### What a family over the peers is made of -/

/-- Three families side by side. -/
theorem sep3 (A B C : Fin 31 → sProp 𝕄) :
    bigSep Finset.univ (fun i => iprop(A i ∗ B i ∗ C i)) = iprop(bigSep Finset.univ A ∗ bigSep Finset.univ B ∗ bigSep Finset.univ C) := by
  rw [bigSep_sep', bigSep_sep']

/-- Four families side by side. -/
theorem sep4 (A B C D : Fin 31 → sProp 𝕄) :
    bigSep Finset.univ (fun i => iprop(A i ∗ B i ∗ C i ∗ D i))
      = iprop(bigSep Finset.univ A ∗ bigSep Finset.univ B ∗ bigSep Finset.univ C ∗ bigSep Finset.univ D) := by
  rw [bigSep_sep', bigSep_sep', bigSep_sep']

theorem helloNeeds_eq (c : Dev nD) :
    bigSep Finset.univ (helloNeeds (F := F) c)
      = iprop((bigSep Finset.univ fun i => dutyTok ER (barC (peer c i)) 0 (rev i)) ∗ (bigSep Finset.univ fun i => hole c aM (slotOf i))
          ∗ bigSep Finset.univ fun i => hole c gM (slotOf i)) := by
  rw [flipped (fun i => hole c aM (slotOf i))]
  exact sep3 _ _ _

theorem barPay_eq (c : Dev nD) :
    (bigSep Finset.univ fun j => barPay (F := F) c j)
      = iprop((bigSep Finset.univ fun i => hole (peer c i) aM (slotOf i)) ∗ bigSep Finset.univ fun i => hole (peer c i) gM (backOf i)) :=
  bigSep_sep' _ _ _

theorem scatterNeeds_eq (c : Dev nD) :
    bigSep Finset.univ (scatterNeeds (F := F) c)
      = iprop((bigSep Finset.univ fun i => dutyTok ER (dmaC 0 c i) 0 0) ∗ (bigSep Finset.univ fun i => dutyTok ER (dmaC 1 (peer c i) i) 0 0)
          ∗ (bigSep Finset.univ fun i => hole c sM (slotOf i)) ∗ bigSep Finset.univ fun i => hole (peer c i) aM (slotOf i)) :=
  sep4 _ _ _ _

theorem gatherNeeds_eq (c : Dev nD) :
    bigSep Finset.univ (gatherNeeds (F := F) c)
      = iprop((bigSep Finset.univ fun i => cred (tallyAt (dmaC 1 c i) () N)) ∗ bigSep Finset.univ fun i => atPos ER (dmaC 1 c i) 0 ∅ 0) :=
  bigSep_sep' _ _ _

theorem gatherLeaves_eq (c : Dev nD) :
    bigSep Finset.univ (gatherLeaves (F := F) c)
      = iprop((bigSep Finset.univ fun i => atPos ER (dmaC 1 c i) 1 ∅ 0) ∗ bigSep Finset.univ fun i => hole c aM (slotOf i)) :=
  bigSep_sep' _ _ _

theorem spreadNeeds_eq (c : Dev nD) :
    bigSep Finset.univ (spreadNeeds X c)
      = iprop((bigSep Finset.univ fun i => dutyTok ER (dmaC 2 c i) 0 0) ∗ (bigSep Finset.univ fun i => dutyTok ER (dmaC 3 (peer c i) i) 0 0)
          ∗ (bigSep Finset.univ fun i => redPts c (shareTok fullShare 31 i) (red X c)) ∗ bigSep Finset.univ fun i => hole (peer c i) gM (backOf i)) :=
  sep4 _ _ _ _

theorem awaitNeeds_eq (c : Dev nD) :
    bigSep Finset.univ (awaitNeeds (F := F) c)
      = iprop((bigSep Finset.univ fun i => cred (tallyAt (dmaC 3 c i) () N)) ∗ bigSep Finset.univ fun i => atPos ER (dmaC 3 c i) 0 ∅ 0) :=
  bigSep_sep' _ _ _

/-- What has landed, by the peer it came from. -/
theorem awaitLeaves_eq (c : Dev nD) :
    bigSep Finset.univ (awaitLeaves X c)
      = iprop((bigSep Finset.univ fun i => atPos ER (dmaC 3 c i) 1 ∅ 0) ∗ bigSep Finset.univ fun i => full c gM (slotOf i) (red X (peer c i))) := by
  rw [flipped (fun i => full c gM (slotOf i) (red X (peer c i)))]
  simp only [slotOf_rev]
  exact bigSep_sep' _ _ _

theorem drainNeeds_eq (c : Dev nD) :
    bigSep Finset.univ (drainNeeds (F := F) c)
      = iprop(((bigSep Finset.univ fun i => cred (tallyAt (dmaC 0 c i) () N)) ∗ bigSep Finset.univ fun i => atPos ER (dmaC 0 c i) 0 ∅ 0)
          ∗ (bigSep Finset.univ fun i => cred (tallyAt (dmaC 2 c i) () N)) ∗ bigSep Finset.univ fun i => atPos ER (dmaC 2 c i) 0 ∅ 0) := by
  rw [← bigSep_sep', ← bigSep_sep', ← bigSep_sep']
  rfl

theorem drainLeaves_eq (c : Dev nD) :
    bigSep Finset.univ (drainLeaves X c)
      = iprop(((bigSep Finset.univ fun i => atPos ER (dmaC 0 c i) 1 ∅ 0) ∗ bigSep Finset.univ fun i => hole c sM (slotOf i))
          ∗ (bigSep Finset.univ fun i => atPos ER (dmaC 2 c i) 1 ∅ 0) ∗ bigSep Finset.univ fun i => redPts c (shareTok fullShare 31 i) (red X c)) := by
  rw [← bigSep_sep', ← bigSep_sep', ← bigSep_sep']
  rfl

end Cert.TreeRed

end
-- ==== Proof.Body.lean ====
/-
# `Body`: the body of the kernel on one device

From what a device starts with (its input, its buffers, its cursors, its credits and its tokens) the
body runs to its end, with the result in place and every buffer back.
-/
module

public import proofs.«01_k».proof.Proof.Phases

@[expose] public section

noncomputable section

namespace Cert.TreeRed

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (X : Dev nD → Vec F S1x512x512 .bf16) (K : Dev nD × Cid → ℕ)

/-- The cursors of a device's cells, at round `r`. -/
def cursors (c : Dev nD) (r : ℕ) : sProp 𝕄 :=
  iprop(atPos ER (barC c) r ∅ 0 ∗ (bigSep Finset.univ fun i => atPos ER (dmaC 0 c i) r ∅ 0) ∗ (bigSep Finset.univ fun i => atPos ER (dmaC 1 c i) r ∅ 0)
    ∗ (bigSep Finset.univ fun i => atPos ER (dmaC 2 c i) r ∅ 0) ∗ bigSep Finset.univ fun i => atPos ER (dmaC 3 c i) r ∅ 0)

/-- The tokens a device pays with. -/
def tokens (c : Dev nD) : sProp 𝕄 :=
  iprop((bigSep Finset.univ fun i => dutyTok ER (barC (peer c i)) 0 (rev i)) ∗ (bigSep Finset.univ fun i => dutyTok ER (dmaC 0 c i) 0 0)
    ∗ (bigSep Finset.univ fun i => dutyTok ER (dmaC 1 (peer c i) i) 0 0) ∗ (bigSep Finset.univ fun i => dutyTok ER (dmaC 2 c i) 0 0)
    ∗ bigSep Finset.univ fun i => dutyTok ER (dmaC 3 (peer c i) i) 0 0)

/-- The credits for what others will do to a device. -/
def credits (c : Dev nD) : sProp 𝕄 :=
  iprop(cred (tallyAt (barC c) () 31) ∗ (bigSep Finset.univ fun i => cred (tallyAt (dmaC 1 c i) () N))
    ∗ bigSep Finset.univ fun i => cred (tallyAt (dmaC 3 c i) () N))

/-- A device's scratch buffers, at some contents. -/
def buffers (c : Dev nD) : sProp 𝕄 :=
  iprop((∃ f, sM.view.loc (c : Thread nD τ) ↦{fullShare} f) ∗ (∃ f, aM.view.loc (c : Thread nD τ) ↦{fullShare} f)
    ∗ (∃ f, gM.view.loc (c : Thread nD τ) ↦{fullShare} f) ∗ redAny c)

/-- What a device starts the body with. -/
def atStart (c : Dev nD) : sProp 𝕄 :=
  iprop(under X K c (owed0 c peers) ∗ xPts X c ∗ (∃ f : Vec F S512x512 .bf16, (c : Thread nD τ).loc cc0_stg1_0 ↦{fullShare} f)
    ∗ buffers c ∗ cursors c 0 ∗ tokens c ∗ credits c)

/-- What it ends it with. -/
def atEnd (c : Dev nD) : sProp 𝕄 :=
  iprop(under X K c 0 ∗ xPts X c ∗ ((c : Thread nD τ).loc cc0_stg1_0 ↦{fullShare} outAt X) ∗ buffers c ∗ cursors c 1)

/-- With no peer left to place, the result is right. -/
theorem outPts_nil (c : Dev nD) : (outPts X c [] : sProp 𝕄) ⊢ ((c : Thread nD τ).loc cc0_stg1_0 ↦{fullShare} outAt X) := by
  unfold outPts
  iintro ⟨%f, %hf, H⟩
  have e : f = outAt X := funext fun x => hf x (fun i hi => absurd hi List.not_mem_nil)
  subst e
  iexact H

theorem sM_whole : sM.view.set = Finset.univ := View.set_whole cc0_scratch0
theorem aM_whole : aM.view.set = Finset.univ := View.set_whole cc0_scratch1
theorem gM_whole : gM.view.set = Finset.univ := View.set_whole cc0_scratch2

/-- The reduced rows, read by the thirty-one copies at once. -/
theorem red_split (c : Dev nD) : (redPts c fullShare (red X c) : sProp 𝕄)
    ⊢ iprop(redPts c (shareDrop fullShare 31) (red X c) ∗ bigSep Finset.univ fun i : Fin 31 => redPts c (shareTok fullShare 31 i) (red X c)) := by
  unfold redPts
  exact pointsTo_toks_split fullShare 31

theorem red_join (c : Dev nD) :
    iprop(redPts c (shareDrop fullShare 31) (red X c) ∗ bigSep Finset.univ fun i : Fin 31 => redPts c (shareTok fullShare 31 i) (red X c))
      ⊢ (redPts c fullShare (red X c) : sProp 𝕄) := by
  unfold redPts
  exact pointsTo_toks_join fullShare 31

set_option maxHeartbeats 800000 in
theorem body_runs (c : Dev nD) (Q : PUnit → sProp 𝕄) :
    atStart X K c ⊢ iprop((atEnd X K c -∗ Q ⟨⟩)
      -∗ WP c (body xM oM (Memref.isWhole_whole _) sM (Memref.isWhole_whole _) aM (Memref.isWhole_whole _) gM (Memref.isWhole_whole _)
          rM (Memref.isWhole_whole _) cc0_scratch4 cc0_scratch5 cc0_scratch6 cc0_scratch7) Q) := by
  rw [← bind_pure (body xM oM (Memref.isWhole_whole _) sM (Memref.isWhole_whole _) aM (Memref.isWhole_whole _) gM (Memref.isWhole_whole _)
          rM (Memref.isWhole_whole _) cc0_scratch4 cc0_scratch5 cc0_scratch6 cc0_scratch7)]
  unfold body
  simp only [bind_assoc]
  unfold atStart buffers cursors tokens credits
  iintro ⟨HU, Hx, Ho, ⟨⟨%fs, Hs⟩, ⟨%fa, Ha⟩, ⟨%fg, Hg⟩, Hr⟩, ⟨HatB, Hat0, Hat1, Hat2, Hat3⟩, ⟨HtB, Ht0, Ht1, Ht2, Ht3⟩, ⟨HcB, Hc1, Hc3⟩⟩ Hk
  ihave Hs' := (slots_split c sM sM_whole fs) $$ Hs
  ihave Ha' := (slots_split c aM aM_whole fa) $$ Ha
  ihave Hg' := (slots_split c gM gM_whole fg) $$ Hg
  icases Hs' with ⟨Hs0, Hs⟩
  icases Ha' with ⟨Ha0, Ha⟩
  icases Hg' with ⟨Hg0, Hg⟩
  rw [show (Prog.lift .deviceId : P F (Dev nD)) = .op .deviceId .ret from rfl]
  simp only [Prog.bind_op, Prog.bind_ret, wp_deviceId]
  -- greet the peers
  iapply (hello_runs X K c) $$ [HU HtB Ha Hg]
  · isplitl [HU]; · iexact HU
    rw [helloNeeds_eq]
    isplitl [HtB]; · iexact HtB
    isplitl [Ha] <;> iassumption
  iintro HU
  -- wait for their greetings
  iapply (barrier_wait X K c) $$ [HU HcB HatB]
  · isplitl [HU]; · iexact HU
    isplitl [HcB] <;> iassumption
  rw [barPay_eq]
  iintro ⟨HU, HatB, Hpa, Hpg⟩
  -- send the rows
  iapply (scatter_runs X K c) $$ [HU Hx Ht0 Ht1 Hs Hpa]
  · isplitl [HU Hx]; · isplitl [HU] <;> iassumption
    rw [scatterNeeds_eq]
    isplitl [Ht0]; · iexact Ht0
    isplitl [Ht1]; · iexact Ht1
    isplitl [Hs] <;> iassumption
  iintro ⟨⟨HU, Hx⟩, Hc0⟩
  iapply (own_runs X c) $$ Hx
  iintro Hx
  -- add up
  iapply (gather_runs X K c) $$ [HU Hc1 Hat1]
  · isplitl [HU]; · iexact HU
    rw [gatherNeeds_eq]
    isplitl [Hc1] <;> iassumption
  rw [gatherLeaves_eq]
  iintro ⟨HU, Hat1, Ha⟩
  iapply (keep_runs c (accOf X c peers)) $$ Hr
  rw [show narrow (accOf X c peers) = red X c from rfl]
  iintro Hr
  ihave Hr' := (red_split X c) $$ Hr
  icases Hr' with ⟨Hr, Hrs⟩
  -- send the sum
  iapply (spread_runs X K c) $$ [HU Ht2 Ht3 Hrs Hpg]
  · isplitl [HU]; · iexact HU
    rw [spreadNeeds_eq]
    isplitl [Ht2]; · iexact Ht2
    isplitl [Ht3]; · iexact Ht3
    isplitl [Hrs] <;> iassumption
  iintro ⟨HU, Hc2⟩
  iapply (placeOwn_runs X c (shareDrop fullShare 31)) $$ [Ho Hr]
  · isplitl [Ho] <;> iassumption
  iintro ⟨Ho, Hr⟩
  -- take the sums of the peers
  iapply (await_runs X K c) $$ [HU Hc3 Hat3]
  · isplitl [HU]; · iexact HU
    rw [awaitNeeds_eq]
    isplitl [Hc3] <;> iassumption
  rw [awaitLeaves_eq]
  iintro ⟨HU, Hat3, Hg⟩
  iapply (place_runs X c) $$ [Ho Hg]
  · isplitl [Ho] <;> iassumption
  iintro ⟨Ho, Hg⟩
  -- see the copies off
  iapply (drain_runs X K c) $$ [HU Hc0 Hat0 Hc2 Hat2]
  · isplitl [HU]; · iexact HU
    rw [drainNeeds_eq]
    isplitl [Hc0 Hat0]; · isplitl [Hc0] <;> iassumption
    isplitl [Hc2] <;> iassumption
  rw [drainLeaves_eq]
  iintro ⟨HU, ⟨Hat0, Hs⟩, Hat2, Hrs⟩
  rw [Prog.pure_eq_ret]; unfold WP; rw [wp_ret]; imodintro
  iapply Hk
  unfold atEnd buffers cursors
  isplitl [HU]; · iexact HU
  isplitl [Hx]; · iexact Hx
  isplitl [Ho]; · iapply (outPts_nil X c); iexact Ho
  isplitl [Hs0 Hs Ha0 Ha Hg0 Hg Hr Hrs]
  · isplitl [Hs0 Hs]; · iapply (slots_join c sM sM_whole fs); isplitl [Hs0] <;> iassumption
    isplitl [Ha0 Ha]; · iapply (slots_join c aM aM_whole fa); isplitl [Ha0] <;> iassumption
    isplitl [Hg0 Hg]; · iapply (slots_join c gM gM_whole fg); isplitl [Hg0] <;> iassumption
    unfold redAny
    iexists (red X c)
    iapply (Entails.of_eq (redPts_eq c fullShare (red X c)))
    iapply (red_join X c)
    isplitl [Hr] <;> iassumption
  isplitl [HatB]; · iexact HatB
  isplitl [Hat0]; · iexact Hat0
  isplitl [Hat1]; · iexact Hat1
  isplitl [Hat2] <;> iassumption

end Cert.TreeRed

end
-- ==== Proof.Deal.lean ====
/-
# `Deal`: what the launch hands out, and what comes back

The cursors, tokens and credits of all devices, as minted and as the devices hold them; and the
closing of a device's cells at the end.
-/
module

public import proofs.«01_k».proof.Proof.Body

@[expose] public section

noncomputable section

namespace Cert.TreeRed

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ UU ℕ

variable (X : Dev nD → Vec F S1x512x512 .bf16) (K : Dev nD × Cid → ℕ)

/-! ### The cells of a device -/

/-- The cells of a device one family after the other. -/
theorem over_cells (Φ : Cid → sProp 𝕄) :
    bigSep Finset.univ Φ = iprop(Φ (.inl ()) ∗ (bigSep Finset.univ fun i => Φ (.inr (0, i))) ∗ (bigSep Finset.univ fun i => Φ (.inr (1, i)))
      ∗ (bigSep Finset.univ fun i => Φ (.inr (2, i))) ∗ bigSep Finset.univ fun i => Φ (.inr (3, i))) := by
  rw [bigSep_univ_sum, bigSep_univ_prod]
  have h1 : bigSep Finset.univ (fun a : Unit => Φ (.inl a)) = Φ (.inl ()) := bigSep_univ_eq_bigSepL [()] (by decide) (by decide) _
  have h2 : bigSep Finset.univ (fun a : Fin 4 => bigSep Finset.univ fun b : Fin 31 => Φ (.inr (a, b)))
      = iprop((bigSep Finset.univ fun i => Φ (.inr (0, i))) ∗ (bigSep Finset.univ fun i => Φ (.inr (1, i)))
      ∗ (bigSep Finset.univ fun i => Φ (.inr (2, i))) ∗ bigSep Finset.univ fun i => Φ (.inr (3, i))) :=
    bigSep_univ_eq_bigSepL [0, 1, 2, 3] (by decide) (by decide) _
  rw [h1, h2]
  rfl

theorem cursors_eq (c : Dev nD) (r : ℕ) : (cursors c r : sProp 𝕄) = bigSep Finset.univ fun k : Cid => atPos ER (kcell (c, k)) r ∅ 0 :=
  (over_cells fun k : Cid => atPos ER (kcell (c, k)) r ∅ 0).symm

/-- The counters of a device's cells at zero. -/
def zeros (c : Dev nD) : sProp 𝕄 := bigSep Finset.univ fun k : Cid => semVal (kcell (c, k)) 0

/-- A family from another with a record at hand. -/
theorem with_record {I : Type} [DecidableEq I] {S : Finset I} {R : sProp 𝕄} [BI.Persistent R] {Φ Ψ : I → sProp 𝕄}
    (h : ∀ i, iprop(R ∗ Φ i) ⊢ Ψ i) : iprop(R ∗ bigSep S Φ) ⊢ bigSep S Ψ :=
  (sep_mono_left (BI.bigSep_of_persistent S R)).trans (by rw [← bigSep_sep']; exact bigSep_mono fun i _ => h i)

/-- After the last round every cell closes, its counter at zero. -/
theorem close_cells (c : Dev nD) : iprop(records X K ∗ cursors c 1) ⊢ (|={Set.univ}=> zeros c : sProp 𝕄) := by
  rw [cursors_eq]
  unfold zeros
  refine (with_record (R := records X K) (Ψ := fun k : Cid => iprop(|={Set.univ}=> semVal (kcell (c, k)) 0)) fun k => ?_).trans (bigSep_fupd _ _)
  iintro ⟨#HR, Hat⟩
  iapply (Rounds.cell_close ER (proto X) (Set.mem_univ (K (c, k))) (fun h => h) (R := 1) (duties_later X (kcell (c, k))))
  isplitr
  · iapply (inv_at X K (c, k)); iexact HR
  · iexact Hat

/-! ### The tokens -/

/-- The names of the tokens of a device's own cells. -/
abbrev Tid : Type := Fin 31 ⊕ (Fin 4 × Fin 31)
/-- The token of each name. -/
abbrev tokOf (ct : Dev nD × Tid) : GSem nD τ sig × ℕ × Fin 31 := match ct.2 with
  | .inl j => (barC ct.1, 0, j)
  | .inr (a, i) => (dmaC a ct.1 i, 0, 0)

theorem tokOf_injective : Function.Injective tokOf := by
  rintro ⟨c, t⟩ ⟨c', t'⟩ h
  have hc : c = c' := by
    have := congrArg (fun x : GSem nD τ sig × ℕ × Fin 31 => x.1.1.1) h
    rcases t with j | ⟨a, i⟩ <;> rcases t' with j' | ⟨a', i'⟩ <;> exact this
  subst hc
  have hs := congrArg (fun x : GSem nD τ sig × ℕ × Fin 31 => tag x.1.2) h
  rcases t with j | ⟨a, i⟩ <;> rcases t' with j' | ⟨a', i'⟩
  · have : j = j' := congrArg (fun x : GSem nD τ sig × ℕ × Fin 31 => x.2.2) h
    rw [this]
  · dsimp only at hs; rw [tag_sm] at hs; cases hs
  · dsimp only at hs; rw [tag_sm] at hs; cases hs
  · dsimp only at hs; rw [tag_sm, tag_sm] at hs
    cases hs; rfl

theorem kcell_injective : Function.Injective kcell := by
  rintro ⟨c, k⟩ ⟨c', k'⟩ h
  have hc : c = c' := congrArg (fun g : GSem nD τ sig => g.1.1) h
  subst hc
  have hs := congrArg (fun g : GSem nD τ sig => tag g.2) h
  rcases k with u | ⟨a, i⟩ <;> rcases k' with u' | ⟨a', i'⟩
  · rfl
  · dsimp only at hs; rw [tag_sm] at hs; cases hs
  · dsimp only at hs; rw [tag_sm] at hs; cases hs
  · dsimp only at hs; rw [tag_sm, tag_sm] at hs
    cases hs; rfl

/-- All cells of the protocol, and all its tokens. -/
def allCells : Finset (GSem nD τ sig) := Finset.univ.map ⟨kcell, kcell_injective⟩
def allToks : Finset (GSem nD τ sig × ℕ × Fin 31) := Finset.univ.map ⟨tokOf, tokOf_injective⟩

/-- The tokens of a device's own cells. -/
def minted (c : Dev nD) : sProp 𝕄 :=
  iprop((bigSep Finset.univ fun j => dutyTok ER (barC c) 0 j) ∗ (bigSep Finset.univ fun i => dutyTok ER (dmaC 0 c i) 0 0)
    ∗ (bigSep Finset.univ fun i => dutyTok ER (dmaC 1 c i) 0 0) ∗ (bigSep Finset.univ fun i => dutyTok ER (dmaC 2 c i) 0 0)
    ∗ bigSep Finset.univ fun i => dutyTok ER (dmaC 3 c i) 0 0)

theorem over_toks (c : Dev nD) :
    (bigSep Finset.univ fun t : Tid => dutyTok ER (tokOf (c, t)).1 (tokOf (c, t)).2.1 (tokOf (c, t)).2.2 : sProp 𝕄) = minted c := by
  rw [bigSep_univ_sum, bigSep_univ_prod]
  have h2 : bigSep Finset.univ (fun a : Fin 4 => bigSep Finset.univ fun b : Fin 31 =>
        (dutyTok ER (tokOf (c, .inr (a, b))).1 (tokOf (c, .inr (a, b))).2.1 (tokOf (c, .inr (a, b))).2.2 : sProp 𝕄))
      = iprop((bigSep Finset.univ fun i => dutyTok ER (dmaC 0 c i) 0 0) ∗ (bigSep Finset.univ fun i => dutyTok ER (dmaC 1 c i) 0 0)
      ∗ (bigSep Finset.univ fun i => dutyTok ER (dmaC 2 c i) 0 0) ∗ bigSep Finset.univ fun i => dutyTok ER (dmaC 3 c i) 0 0) :=
    bigSep_univ_eq_bigSepL [0, 1, 2, 3] (by decide) (by decide) _
  rw [h2]
  rfl

/-- A family over devices and peers, each device taking its peer's part. -/
theorem dealt (Φ : Dev nD → Fin 31 → sProp 𝕄) :
    (bigSep Finset.univ fun c => bigSep Finset.univ fun i => Φ c i) = bigSep Finset.univ fun c => bigSep Finset.univ fun i => Φ (peer c i) i := by
  rw [BI.bigSep_univ_comm, BI.bigSep_univ_comm (fun c i => Φ (peer c i) i)]
  exact bigSep_congr fun i _ => bigSep_univ_equiv (turn i) fun c => Φ c i

/-- The tokens go round to the devices that pay with them. -/
theorem deal_tokens : (bigSep Finset.univ fun c : Dev nD => (minted c : sProp 𝕄)) = bigSep Finset.univ fun c : Dev nD => tokens c := by
  unfold minted tokens
  rw [bigSep_sep', bigSep_sep', bigSep_sep', bigSep_sep', bigSep_sep', bigSep_sep', bigSep_sep', bigSep_sep',
    dealt (fun c i => dutyTok ER (dmaC 1 c i) 0 0), dealt (fun c i => dutyTok ER (dmaC 3 c i) 0 0),
    show (bigSep Finset.univ fun c : Dev nD => bigSep Finset.univ fun j : Fin 31 => (dutyTok ER (barC c) 0 j : sProp 𝕄))
        = bigSep Finset.univ fun c : Dev nD => bigSep Finset.univ fun i : Fin 31 => dutyTok ER (barC c) 0 (rev i) from
      bigSep_congr fun c _ => flipped fun j => dutyTok ER (barC c) 0 j,
    dealt (fun c i => dutyTok ER (barC c) 0 (rev i))]

/-! ### The credits -/

/-- What is owed after a loop is set out, cell by cell. -/
theorem debt_apply (g : Fin 31 → GSem nD τ sig) (n : ℕ) (b : CellTallies nD τ sig Unit) (x : GSem nD τ sig) :
    debt g n b peers x () = b x () + ∑ i : Fin 31, if x = g i then n else 0 := by
  have h : ∀ l : List (Fin 31), debt g n b l x () = b x () + (l.map fun i => if x = g i then n else 0).sum := by
    intro l
    induction l with
    | nil => rfl
    | cons i l ih =>
      unfold debt
      rw [Pi.add_apply, Finsupp.add_apply, tallyAt_apply, ih, List.map_cons, List.sum_cons]
      by_cases hx : x = g i
      · rw [if_pos ⟨hx, rfl⟩, if_pos hx]; omega
      · rw [if_neg (fun h' => hx h'.1), if_neg hx]; omega
  rw [h peers, show peers = List.finRange 31 from by decide, Fin.sum_univ_def]

theorem bar_ne_dma (a : Fin 4) (c d : Dev nD) (i : Fin 31) : barC c ≠ dmaC a d i := fun h => by
  have := congrArg (fun g : GSem nD τ sig => tag g.2) h
  dsimp only at this; rw [tag_sm] at this; cases this
theorem bar_inj {c d : Dev nD} : barC c = barC d ↔ c = d := ⟨fun h => congrArg (fun g : GSem nD τ sig => g.1.1) h, fun h => h ▸ rfl⟩
theorem dma_inj {a b : Fin 4} {c d : Dev nD} {i j : Fin 31} : dmaC a c i = dmaC b d j ↔ a = b ∧ c = d ∧ i = j := by
  constructor
  · intro h
    have hc : c = d := congrArg (fun g : GSem nD τ sig => g.1.1) h
    have := congrArg (fun g : GSem nD τ sig => tag g.2) h
    dsimp only at this; rw [tag_sm, tag_sm] at this
    cases this
    exact ⟨rfl, hc, rfl⟩
  · rintro ⟨rfl, rfl, rfl⟩; rfl

theorem peer_eq_iff (c d : Dev nD) (i : Fin 31) : c = peer d i ↔ d = peer c (rev i) :=
  ⟨fun h => by rw [h, peer_peer], fun h => by rw [h, peer_rev]⟩

theorem owed0_apply (d : Dev nD) (x : GSem nD τ sig) :
    O₀ d x () = (∑ i : Fin 31, if x = dmaC 3 (peer d i) i then N else 0) + (∑ i : Fin 31, if x = dmaC 1 (peer d i) i then N else 0)
      + ∑ i : Fin 31, if x = barC (peer d i) then 1 else 0 := by
  unfold O₀ owed0 owed1 owed2
  rw [debt_apply, debt_apply, debt_apply]
  rw [show (0 : CellTallies nD τ sig Unit) x () = 0 from rfl, Nat.zero_add]

/-- Every peer raises a device's barrier by one. -/
theorem total_bar (c : Dev nD) : ∑ d : Dev nD, O₀ d (barC c) () = 31 := by
  have h : ∀ d : Dev nD, O₀ d (barC c) () = ∑ i : Fin 31, if d = peer c (rev i) then 1 else 0 := fun d => by
    rw [owed0_apply, Finset.sum_eq_zero fun i _ => if_neg (bar_ne_dma 3 c (peer d i) i), Finset.sum_eq_zero fun i _ => if_neg (bar_ne_dma 1 c (peer d i) i), Nat.zero_add, Nat.zero_add]
    exact Finset.sum_congr rfl fun i _ => if_congr (bar_inj.trans (peer_eq_iff c d i)) rfl rfl
  rw [Finset.sum_congr rfl fun d _ => h d, Finset.sum_comm]
  rw [Finset.sum_congr rfl fun i _ => (Finset.sum_ite_eq' Finset.univ (peer c (rev i)) fun _ => 1).trans (if_pos (Finset.mem_univ _))]
  rfl

/-- One device fills each slot of the first exchange. -/
theorem total_1 (c : Dev nD) (j : Fin 31) : ∑ d : Dev nD, O₀ d (dmaC 1 c j) () = N := by
  have h : ∀ d : Dev nD, O₀ d (dmaC 1 c j) () = if d = peer c (rev j) then N else 0 := fun d => by
    rw [owed0_apply, Finset.sum_eq_zero fun i _ => if_neg (fun e => by have := (dma_inj.1 e).1; revert this; decide),
      Finset.sum_eq_zero (f := fun i => if dmaC 1 c j = barC (peer d i) then 1 else 0) fun i _ => if_neg (fun e => bar_ne_dma 1 _ _ _ e.symm), Nat.zero_add, Nat.add_zero]
    rw [Finset.sum_eq_single j (fun i _ hi => if_neg fun e => hi (dma_inj.1 e).2.2.symm) (fun h => absurd (Finset.mem_univ _) h)]
    exact if_congr (dma_inj.trans ⟨fun h => (peer_eq_iff c d j).1 h.2.1, fun h => ⟨rfl, (peer_eq_iff c d j).2 h, rfl⟩⟩) rfl rfl
  rw [Finset.sum_congr rfl fun d _ => h d, Finset.sum_ite_eq' Finset.univ (peer c (rev j)) fun _ => N, if_pos (Finset.mem_univ _)]

/-- One device fills each slot of the second exchange. -/
theorem total_3 (c : Dev nD) (j : Fin 31) : ∑ d : Dev nD, O₀ d (dmaC 3 c j) () = N := by
  have h : ∀ d : Dev nD, O₀ d (dmaC 3 c j) () = if d = peer c (rev j) then N else 0 := fun d => by
    rw [owed0_apply, Finset.sum_eq_zero (f := fun i => if dmaC 3 c j = dmaC 1 (peer d i) i then N else 0) fun i _ => if_neg (fun e => by have := (dma_inj.1 e).1; revert this; decide),
      Finset.sum_eq_zero (f := fun i => if dmaC 3 c j = barC (peer d i) then 1 else 0) fun i _ => if_neg (fun e => bar_ne_dma 3 _ _ _ e.symm), Nat.add_zero, Nat.add_zero]
    rw [Finset.sum_eq_single j (fun i _ hi => if_neg fun e => hi (dma_inj.1 e).2.2.symm) (fun h => absurd (Finset.mem_univ _) h)]
    exact if_congr (dma_inj.trans ⟨fun h => (peer_eq_iff c d j).1 h.2.1, fun h => ⟨rfl, (peer_eq_iff c d j).2 h, rfl⟩⟩) rfl rfl
  rw [Finset.sum_congr rfl fun d _ => h d, Finset.sum_ite_eq' Finset.univ (peer c (rev j)) fun _ => N, if_pos (Finset.mem_univ _)]

/-- The credit the launch gives for a cell. -/
theorem launch_at (g : GSem nD τ sig) (n : ℕ) (h : ∑ d : Dev nD, O₀ d g () = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]

theorem csem_injective : Function.Injective csem := fun k k' h => by
  have := kcell_injective (a₁ := ((0 : Dev nD), k)) (a₂ := ((0 : Dev nD), k')) (Prod.ext rfl h)
  exact congrArg Prod.snd this

theorem launch_credits (c : Dev nD) : (Pipeline.launchCred O₀ c : sProp 𝕄) ⊢ credits c := by
  unfold Pipeline.launchCred
  refine (BI.bigSep_subset (Finset.subset_univ (Finset.univ.map ⟨csem, csem_injective⟩))).trans ?_
  rw [bigSep_map]
  refine (Entails.of_eq (over_cells _)).trans ?_
  unfold credits
  iintro ⟨HB, -, H1, -, H3⟩
  isplitl [HB]
  · iapply (Entails.of_eq (congrArg cred (launch_at (barC c) 31 (total_bar c)))); iexact HB
  isplitl [H1]
  · iapply (Entails.of_eq (bigSep_congr fun i _ => congrArg cred (launch_at (dmaC 1 c i) N (total_1 c i)))); iexact H1
  · iapply (Entails.of_eq (bigSep_congr fun i _ => congrArg cred (launch_at (dmaC 3 c i) N (total_3 c i)))); iexact H3

end Cert.TreeRed

end
-- ==== Proof.Unroll.lean ====
/-
# `Unroll`: the printed body is the six loops

The print gives the body as eighty-six pieces, called one from another. Unfolding the pieces on one
side and the loops on the other leaves the same operations in the same order.
-/
module

public import proofs.«01_k».proof.Proof.Steps

@[expose] public section

noncomputable section

namespace Cert.TreeRed

open Idealize.ShloMosaic Idealize.SL.Sem Cert.KernelIdeal Cert.KernelIdeal.Gen

variable {F : FTy → Type} [FloatOps F]

set_option maxRecDepth 1000000 in
set_option maxHeartbeats 0 in
/-- The printed body is `body`. -/
theorem cc0_body_eq (arg0 : Memref sig .tc .vmem S1x512x512 .bf16) (harg0 : arg0.IsWhole) (arg1 : Memref sig .tc .vmem S512x512 .bf16) (harg1 : arg1.IsWhole)
    (arg2 : Memref sig .tc .vmem S32x16x512 .bf16) (harg2 : arg2.IsWhole) (arg3 : Memref sig .tc .vmem S32x16x512 .bf16) (harg3 : arg3.IsWhole)
    (arg4 : Memref sig .tc .vmem S32x16x512 .bf16) (harg4 : arg4.IsWhole) (arg5 : Memref sig .tc .vmem S16x512 .bf16) (harg5 : arg5.IsWhole)
    (arg6 arg7 arg8 arg9 : DmaSems sig S2x32) :
    cc0_body (F := F) arg0 harg0 arg1 harg1 arg2 harg2 arg3 harg3 arg4 harg4 arg5 harg5 arg6 arg7 arg8 arg9
      = body arg0 arg1 harg1 arg2 harg2 arg3 harg3 arg4 harg4 arg5 harg5 arg6 arg7 arg8 arg9 := by
  dsimp only [cc0_body, k0_part1, k0_part2, k0_part3, k0_part4, k0_part5, k0_part6, k0_part7, k0_part8, k0_part9, k0_part10, k0_part11, k0_part12, k0_part13, k0_part14, k0_part15, k0_part16, k0_part17, k0_part18, k0_part19, k0_part20, k0_part21, k0_part22, k0_part23, k0_part24, k0_part25, k0_part26, k0_part27, k0_part28, k0_part29, k0_part30, k0_part31, k0_part32, k0_part33, k0_part34, k0_part35, k0_part36, k0_part37, k0_part38, k0_part39, k0_part40, k0_part41, k0_part42, k0_part43, k0_part44, k0_part45, k0_part46, k0_part47, k0_part48, k0_part49, k0_part50, k0_part51, k0_part52, k0_part53, k0_part54, k0_part55, k0_part56, k0_part57, k0_part58, k0_part59, k0_part60, k0_part61, k0_part62, k0_part63, k0_part64, k0_part65, k0_part66, k0_part67, k0_part68, k0_part69, k0_part70, k0_part71, k0_part72, k0_part73, k0_part74, k0_part75, k0_part76, k0_part77, k0_part78, k0_part79, k0_part80, k0_part81, k0_part82, k0_part83, k0_part84, k0_part85, k0_part86,
    body, each, fold, peers, hello, scatter, gatherAdd, spread, await, place, drain, keep, placeOwn,
    semSignalWord, semWaitWord, Prog.lift, Prog.bind_op, Prog.bind_ret, Prog.pure_eq_ret]
  rfl

end Cert.TreeRed

end
-- ==== Proof.Launch.lean ====
/-
# `Launch`: the run of the whole program

The one launch on every device: what each device brings to the body and takes away, the global step
that puts every cell in the protocol, and the theorem about every run of the program.
-/
module

public import proofs.«01_k».proof.Proof.Deal
public import proofs.«01_k».proof.Proof.Unroll
public import Idealize.ShloMosaic.Lib.Pipeline.Launch
public import Idealize.ShloMosaic.Lib.Pipeline.Kit
public import Idealize.ShloMosaic.Lib.Pipeline.CollectiveSegs

@[expose] public section

noncomputable section

namespace Cert.TreeRed

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ UU ℕ

/-! ### The data of the launch -/

variable (m : (ℓ : Loc nD τ sig) → Buf (Elt F) ℓ) (ρ : Dev nD → PrngReg)

/-- The state at launch: the memory, and every counter at zero. -/
def s₀ : MemSt nD τ sig (Elt F) := ⟨m, fun _ => 0, ρ⟩

/-- The block of the input that device `c` starts with. -/
def xIn (c : Dev nD) : Vec F S1x512x512 .bf16 := (win0_0.blk (0 : Fin 1)).view.read (Elt F) (m ((c : Thread nD τ).loc main_arg0))

/-- The semaphores of the copies, as the launch lists them. -/
abbrev osem : Fin 4 × Fin 31 → SemLoc sig := fun ai => .dma (sm ai.1 ai.2)

/-- What a device brings to the body beside its buffers. -/
def brings (c : Dev nD) : sProp 𝕄 :=
  iprop((∃ K, records (xIn m) K ∗ cursors c 0 ∗ tokens c) ∗ credits c ∗ levAts L lv)
/-- What it takes away beside the result. -/
def takes (c : Dev nD) : sProp 𝕄 := iprop(buffers c ∗ zeros c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xIn m c
    | ⟨1, _⟩ => outAt (xIn m)
  Φ t := match t with
    | ⟨0, _⟩ => iprop(brings m c ∗ buffers c)
    | ⟨_ + 1, _⟩ => takes c
  q _ := fullShare
  owed t := match t with
    | ⟨0, _⟩ => O₀ c
    | ⟨_ + 1, _⟩ => 0

theorem fetch_0 (t : Fin cfg0.N) : (cfg0.win (0 : Fin 2)).fetch t = true := by rw [fin_N0 t]; rfl

/-! ### The body's obligation -/

/-- A buffer holding given contents. -/
abbrev held (c : Dev nD) (b : Ref sig .tc) (v : b.ty.Contents (Elt F)) : sProp 𝕄 :=
  iprop(∃ f : Buf (Elt F) (((c : Dev nD) : Thread nD τ).loc b), ⌜f = v⌝ ∗ (((c : Thread nD τ).loc b) ↦{fullShare} f))

omit [FloatOps F] in
theorem owns_held (c : Dev nD) (b : Ref sig .tc) (v : b.ty.Contents (Elt F)) :
    (owns (Ix := Unit) (Name := ℕ) (U := UU) (Lvl := ℕ) (c : Thread nD τ) (Memref.whole b) fullShare v : sProp 𝕄) = held c b v := by
  unfold owns held; simp only [Memref.view_whole, View.read_whole, View.set_whole]

def bodyPre (c : Dev nD) : sProp 𝕄 :=
  iprop((brings m c ∗ buffers c)
    ∗ (dats m ρ 0 c).owesAt () t0_0.castSucc
    ∗ (∃ d, held c cc0_stg0_0 ((dats m ρ 0 c).before (0 : Fin 2) t0_0 d))
    ∗ (∃ d, held c cc0_stg1_0 ((dats m ρ 0 c).before (1 : Fin 2) t0_0 d)))

def bodyPost (c : Dev nD) : sProp 𝕄 :=
  iprop(takes c ∗ (dats m ρ 0 c).owesAt () t0_0.succ ∗ held c cc0_stg0_0 (xIn m c) ∗ held c cc0_stg1_0 (outAt (xIn m)))

theorem sound_body (c : Dev nD) :
    bodyPre m ρ c ⊢ WP c (cc0_body xM (Memref.isWhole_whole _) oM (Memref.isWhole_whole _) sM (Memref.isWhole_whole _) aM (Memref.isWhole_whole _)
        gM (Memref.isWhole_whole _) rM (Memref.isWhole_whole _) cc0_scratch4 cc0_scratch5 cc0_scratch6 cc0_scratch7) (fun _ => bodyPost m ρ c) := by
  rw [cc0_body_eq]
  unfold bodyPre brings
  iintro ⟨⟨⟨⟨%K, #HR, Hat, Ht⟩, Hc, #HL⟩, Hb⟩, Ho, ⟨%d0, %g0, %hg0, Hx⟩, ⟨%d1, %g1, %hg1, Hout⟩⟩
  have hx : g0 = xIn m c := by rw [hg0]; unfold Dat.before; rw [if_pos (fetch_0 t0_0)]; rfl
  subst hx
  unfold Dat.owesAt Pipeline.owesWithin
  icases Ho with ⟨%W, %hW, HO⟩
  rw [show (dats m ρ 0 c).owed t0_0.castSucc = O₀ c from rfl]
  iapply wp_fupd
  iapply (body_runs (xIn m) K c) $$ [HO Hx Hout Hb Hat Ht Hc]
  · unfold atStart under
    isplitl [HO]
    · isplitr; · iexact HR
      isplitr; · iexact HL
      iexists W; iexact HO
    isplitl [Hx]; · unfold xPts; iexact Hx
    isplitl [Hout]; · iexists g1; iexact Hout
    isplitl [Hb]; · iexact Hb
    isplitl [Hat]; · iexact Hat
    isplitl [Ht] <;> iassumption
  unfold atEnd under
  iintro ⟨⟨-, -, %W', HO⟩, Hx, Hout, Hb, Hat⟩
  imod (close_cells (xIn m) K c) $$ [Hat] with Hz
  · isplitr; · iexact HR
    iexact Hat
  imodintro
  unfold bodyPost takes Dat.owesAt Pipeline.owesWithin
  rw [show (dats m ρ 0 c).owed t0_0.succ = 0 from rfl]
  isplitl [Hb Hz]; · isplitl [Hb] <;> iassumption
  isplitl [HO]
  · iexists W'
    isplitr; · ipureintro; exact fun _ _ => Or.inl trivial
    iexact HO
  isplitl [Hx]
  · iexists _; isplitr; · (ipureintro; rfl)
    unfold xPts; iexact Hx
  iexists _; isplitr; · (ipureintro; rfl)
  iexact Hout

set_option maxRecDepth 100000 in
theorem body_obligation (c : Dev nD) : BodyObligation (dats (F := F) m ρ 0 c) (defs₀ (F := F)) 𝒱₀ () Set.univ := fun t => by
  rw [fin_N0 t]
  rw [bigSep_W0, bigSep_W0]
  simp only [owns_held]
  show bodyPre m ρ c ⊢ WP c (cc0_body xM (Memref.isWhole_whole _) oM (Memref.isWhole_whole _) sM (Memref.isWhole_whole _) aM (Memref.isWhole_whole _)
        gM (Memref.isWhole_whole _) rM (Memref.isWhole_whole _) cc0_scratch4 cc0_scratch5 cc0_scratch6 cc0_scratch7) (fun _ => bodyPost m ρ c)
  exact sound_body m ρ c

/-! ### The launch -/

theorem ownSemFacts : Pipeline.OwnSemFacts cfg0.spec osem where
  isScoped := by decide +kernel
  inj := fun ⟨a, i⟩ ⟨b, j⟩ h => by
    have := congrArg tag h
    rw [tag_sm, tag_sm] at this
    cases this; rfl
  disj := fun ai w s h => by
    have h' := congrArg tag h
    rw [tag_sm] at h'
    revert h'
    fin_cases w <;> fin_cases s <;> intro h' <;> cases h'

/-- The semaphores of the staging copies are no part of the protocol. -/
theorem stage_tag : ∀ (w : Fin cfg0.W) (s : Fin (cfg0.win w).nbuf), tag (.dma ((cfg0.win w).sem s)) = .other := by
  intro w s
  fin_cases w <;> fin_cases s <;> rfl

theorem share_eq (c : Dev nD) (w : Fin cfg0.W) : (dats m ρ 0 c).share w = fullShare := by unfold Dat.share; split <;> rfl

/-- The ghost state at launch. -/
def u₀ : UU :=
  (initOf (Pipeline.cells cfgs cellOf_inj) (Pipeline.launchToks cfgs cellOf_inj), initOf allCells allToks)

/-- What each device is dealt of it. -/
def G (c : Dev nD) : sProp 𝕄 :=
  iprop((bigSep Finset.univ fun k : Cid => roundState ER (proto (xIn m)) (kcell (c, k)) 0)
    ∗ (cursors c 0 ∗ bigSep Finset.univ fun k : Cid => reached ER (kcell (c, k)) 0) ∗ minted c)

/-- What each device holds once every cell is in the protocol. -/
def G' (c : Dev nD) : sProp 𝕄 := iprop(∃ K, records (xIn m) K ∗ cursors c 0 ∗ tokens c)

theorem fund : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Cid => Φ (kcell (c, k)) := by
    unfold allCells; rw [bigSep_map, bigSep_univ_prod]; rfl
  have hT : bigSep allToks (fun x => (dutyTok ER x.1 x.2.1 x.2.2 : sProp 𝕄)) = bigSep Finset.univ fun c : Dev nD => minted c := by
    unfold allToks; rw [bigSep_map, bigSep_univ_prod]
    exact bigSep_congr fun c _ => over_toks c
  iintro HX
  imod (Rounds.fund ER (proto (xIn m)) allCells allToks) $$ HX with ⟨Hst, Hr, Hat, Htok⟩
  imodintro
  ihave Hst' := (Entails.of_eq (hX fun g => roundState ER (proto (xIn m)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep', cursors_eq]
  isplitl [Hst']; · iexact Hst'
  isplitl [Hat' Hr']
  · isplitl [Hat'] <;> iassumption
  iexact Htok'

omit [FloatOps F] in
theorem swap_sep (A B : sProp 𝕄) : iprop(A ∗ B) ⊢ iprop(B ∗ A) := by
  iintro ⟨HA, HB⟩
  isplitl [HB] <;> iassumption

/-- The semaphores of the copies, and the barrier. -/
theorem zeros_eq (c : Dev nD) :
    iprop(Pipeline.ownSems0 (Ix := Unit) (Name := ℕ) (U := UU) (Lvl := ℕ) (Val := Elt F) (τ := τ) osem c ∗ unscopedSems0 c) = (zeros c : sProp 𝕄) := by
  unfold zeros Pipeline.ownSems0 unscopedSems0
  rw [bigSep_eq_bigSepL_of_eq [SemLoc.reg bar] (by decide) (by decide), bigSep_univ_sum]
  have h1 : bigSep Finset.univ (fun a : Unit => (semVal (kcell (c, .inl a)) 0 : sProp 𝕄)) = semVal (barC c) 0 :=
    bigSep_univ_eq_bigSepL [()] (by decide) (by decide) _
  rw [h1]
  exact BI.Entails.antisymm (swap_sep _ _) (swap_sep _ _)

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Cid => iprop(∃ κ : ℕ, cellInv ER (proto (xIn m)) κ (kcell (c, k))))
          ∗ (cursors c 0 ∗ bigSep Finset.univ fun k : Cid => reached ER (kcell (c, k)) 0) ∗ minted c) := by
  unfold G
  iintro ⟨Hos, Hus, Hst, Hat, Htok⟩
  ihave Hv := (Entails.of_eq (zeros_eq (F := F) c)) $$ [Hos Hus]
  · isplitl [Hos] <;> iassumption
  imod (show iprop(zeros c ∗ bigSep Finset.univ fun k : Cid => roundState ER (proto (xIn m)) (kcell (c, k)) 0)
      ⊢ (|={Set.univ}=> bigSep Finset.univ fun k : Cid => iprop(∃ κ : ℕ, cellInv ER (proto (xIn m)) κ (kcell (c, k))) : sProp 𝕄) from by
        unfold zeros
        rw [← bigSep_sep']
        exact (bigSep_mono fun k _ => (Rounds.body_intro ER (proto (xIn m)) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem regroup :
    (bigSep Finset.univ fun c : Dev nD => iprop((bigSep Finset.univ fun k : Cid => iprop(∃ κ : ℕ, cellInv ER (proto (xIn m)) κ (kcell (c, k))))
          ∗ (cursors c 0 ∗ bigSep Finset.univ fun k : Cid => reached ER (kcell (c, k)) 0) ∗ minted c) : sProp 𝕄)
      ⊢ bigSep Finset.univ (G' m) := by
  rw [bigSep_sep', bigSep_sep', bigSep_sep', deal_tokens,
    ← bigSep_univ_prod (fun ck : Dev nD × Cid => iprop(∃ κ : ℕ, cellInv ER (proto (xIn m)) κ (kcell ck))),
    ← bigSep_univ_prod (fun ck : Dev nD × Cid => (reached ER (kcell ck) 0 : sProp 𝕄))]
  iintro ⟨HI, ⟨Hat, #HR⟩, Htok⟩
  ihave HK := (BI.bigSep_exists_pi Finset.univ (fun (ck : Dev nD × Cid) (κ : ℕ) => (cellInv ER (proto (xIn m)) κ (kcell ck) : sProp 𝕄))) $$ HI
  icases HK with ⟨%K, #HI⟩
  iapply (with_record (R := records (xIn m) K) (Φ := fun c => iprop(cursors c 0 ∗ tokens c)) (Ψ := G' m) fun c => by
    unfold G'
    iintro ⟨#H, Hat, Ht⟩
    iexists K
    isplitr; · iexact H
    isplitl [Hat] <;> iassumption)
  isplitr
  · unfold records; isplitl; · iexact HI
    iexact HR
  · rw [bigSep_sep']
    isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(brings m c ∗ emp) := by
  iintro ⟨-, Hlev, Hcr, -, HG⟩
  ihave Hc := (launch_credits (F := F) c) $$ Hcr
  imodintro
  unfold brings G'
  isplitl
  · isplitl [HG]; · iexact HG
    isplitl [Hc] <;> iassumption
  · iempintro

theorem buffers_eq (c : Dev nD) : (Pipeline.scopedRest cfg0.spec c : sProp 𝕄) = buffers c := by
  rw [scopedRest0_eq]; rfl

theorem phi0_intro (c : Dev nD) :
    iprop(brings m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(brings m c ∗ buffers c) from rfl, buffers_eq]
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = takes c from rfl, buffers_eq]
  unfold takes
  iintro ⟨Hb, Hz⟩
  ihave Hz' := (Entails.of_eq (zeros_eq (F := F) c).symm) $$ Hz
  icases Hz' with ⟨Ho, Hu⟩
  isplitl [Hu]; · iexact Hu
  isplitl [Ho] <;> iassumption

/-- The staging copies may be waited for: their semaphores lie below everything owed. -/
theorem waits (c : Dev nD) : (levAts L lv : sProp 𝕄) ⊢ Pipeline.cellsWaits cfgs (dats m ρ) () 0 c :=
  Pipeline.cellsWaits_intro cfgs (dats m ρ) () 0 c fun w s t =>
    mayWait c _ _ fun x u h => by
      rcases t with ⟨_ | _, ht⟩
      · have h' : 0 < owed0 c peers x u := h
        refine ⟨(owed0_lv h').1, lt_of_lt_of_le ?_ (owed0_lv h').2⟩
        show level (tag (.dma ((cfg0.win w).sem s))) < 1
        rw [stage_tag w s]
        decide
      · exact absurd h (Nat.lt_irrefl 0)

/-! ### The run -/

/-- What the arrays hold at the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- From any memory with every counter at zero every run of the program ends, with each device's arrays
    as computed and every counter at zero again. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := brings m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.TreeRed

end
-- ==== Proof.Final.lean ====
/-
# `Final`: what every run leaves behind

The arrays of a device after a run: the argument as it was, and the result as the protocol's inputs
determine it.
-/
module

public import proofs.«01_k».proof.Proof.Launch
public import Idealize.ShloMosaic.Lib.Pipeline.Value

@[expose] public section

noncomputable section

namespace Cert.TreeRed

open Cert.KernelIdeal Cert.KernelIdeal.Gen
open Idealize.ShloMosaic Idealize.ShloMosaic.TcCoe
open Idealize.SL Idealize.SL.Sem

variable {F : FTy → Type} [FloatOps F]
variable (m : (ℓ : Loc nD τ sig) → Buf (Elt F) ℓ) (ρ : Dev nD → PrngReg)

/-- The block of the input that a device starts with is its argument array. -/
theorem xIn_eq (c : Dev nD) : xIn m c = m ((c : Thread nD τ).loc main_arg0) :=
  Memref.read_access_unit_zero (Elt F) main_arg0 (funext fun a => Nat.zero_mul _) _ _

/-- The argument array ends as it began. -/
theorem final_arg (c : Dev nD) : finalA m ρ c 0 = m ((c : Thread nD τ).loc main_arg0) := (dats m ρ 0 c).arrAt_in 0 rfl _

/-- The result array ends as the sixteen-row blocks of all devices, one below the other. -/
theorem final_result (c : Dev nD) : finalA m ρ c 1 = outAt (xIn m) :=
  (dats m ρ 0 c).arrAt_eq_of_cover 1 (outAt (xIn m))
    (fun t _ => (Memref.read_access_unit_zero (Elt F) main_v1 (funext fun a => Nat.zero_mul _) _ (outAt (xIn m))).symm)
    (fun i => ⟨t0_0, rfl, by
      show i ∈ ((View.whole main_v1).slice (win0_1.rect t0_0)).set
      rw [View.set_slice_whole]
      exact View.mem_set_unit_zero (funext fun a => Nat.zero_mul _) _ i⟩)

/-- Every run of the program ends, with the result and the argument of every device as stated and with
    every counter at zero. -/
theorem run_final : θ_run defs (onTc (τ := τ) (main (F := F))) (s₀ m ρ) (fun r =>
    (∀ c : Dev nD, r.2.mem ((c : Thread nD τ).loc main_v1) = outAt (xIn m)
      ∧ r.2.mem ((c : Thread nD τ).loc main_arg0) = m ((c : Thread nD τ).loc main_arg0)) ∧ r.2.sem = fun _ => 0) :=
  (θ_run defs _ _).mono (fun _ h => ⟨fun c => ⟨(h.1 c 1).trans (final_result m ρ c), (h.1 c 0).trans (final_arg m ρ c)⟩, h.2⟩) (run_main m ρ)

end Cert.TreeRed

end
-- ==== Proof.Value.lean ====
/-
# `Value`: the result over the extended reals

Over the extended reals the roundings vanish, so the rows that a device computes are sums over all
devices, and the whole result is the sum of the input along its first dimension.
-/
module

public import proofs.«01_k».proof.Proof.Protocol
public import proofs.«01_k».proof.Proof.Gen.ReferenceIdeal.Run
public import Idealize.ShloMosaic.PureOps.Ideal
public import Idealize.ShloMosaic.Lib.Layout
public import Idealize.ShloMosaic.Lib.IdealHost
public import Idealize.ShloMosaic.Lib.Pointwise
public import Idealize.ShloMosaic.Lib.Pipeline.Value

@[expose] public section

noncomputable section

namespace Cert.TreeRed

open Cert.KernelIdeal Cert.KernelIdeal.Gen
open Idealize.ShloMosaic
open scoped BigOperators

/-! ### Sums over devices -/

/-- Folding a sum over a list adds up the list. -/
theorem foldl_add {ι : Type} (g : ι → EReal) (l : List ι) (a : EReal) : l.foldl (fun b i => b + g i) a = a + (l.map g).sum := by
  induction l generalizing a with
  | nil => simp
  | cons i l ih => rw [List.foldl_cons, ih, List.map_cons, List.sum_cons, add_assoc]

theorem peers_all : peers = List.finRange 31 := by decide

/-- A device and its peers are all devices. -/
theorem sum_peers (f : Dev nD → EReal) (d : Dev nD) : f d + ∑ i : Fin 31, f (peer d i) = ∑ e : Dev nD, f e := by
  have hd : d.val < 32 := d.isLt
  have h := (Equiv.sum_comp (Equiv.addLeft (d : Fin 32)) (fun e : Fin 32 => f e)).symm
  have h' := Fin.sum_univ_succ fun e : Fin 32 => f (Equiv.addLeft (d : Fin 32) e)
  refine Eq.trans ?_ (h.trans h').symm
  congr 1
  · refine congrArg f (Fin.ext ?_)
    show d.val = (d.val + 0) % 32
    omega
  · refine Finset.sum_congr rfl fun i _ => congrArg f (Fin.ext ?_)
    rw [peer_val]
    show (d.val + i.val + 1) % 32 = (d.val + (i.val + 1)) % 32
    rw [Nat.add_assoc]

/-- Adding up a device's own term and then those of the devices that have it as their peer, in the order in
    which the kernel visits them, adds up the terms of all devices. -/
theorem fold_devices (f : Dev nD → EReal) (d : Dev nD) : peers.foldl (fun a i => a + f (peer d (rev i))) (f d) = ∑ e : Dev nD, f e := by
  rw [foldl_add (fun i => f (peer d (rev i))), peers_all, ← Fin.sum_univ_def, ← sum_peers f d]
  exact congrArg (f d + ·) (Equiv.sum_comp flip fun i => f (peer d i))

/-! ### The rows that a device computes -/

variable (X : Dev nD → Vec Ideal S1x512x512 .bf16)

/-- Where element `y` of the rows of device `d` lies in a block of the input. -/
def rowAt (d : Dev nD) (y : S16x512.Idx) : S1x512x512.Idx := fun
  | ⟨0, _⟩ => ⟨0, Nat.one_pos⟩
  | ⟨1, _⟩ => ⟨16 * d.val + (y 0).val, by
      have h : (y 0).val < 16 := (y 0).isLt
      have hd : d.val < 32 := d.isLt
      show _ < 512; omega⟩
  | ⟨2, _⟩ => ⟨(y 1).val, (y 1).isLt⟩

/-- A page read out of a block of the input. -/
theorem page_rows (d : Dev nD) {off : Fin 3 → ℕ} (h : off = ![0, 16 * d.val, 0]) (inb) (v : Vec Ideal S1x512x512 .bf16) (y : S16x512.Idx) :
    page (xM.view.readAt (Elt Ideal) (Rect.unit (s := S1x512x512) off S1x16x512.size inb).toLoadRect v) y = v (rowAt d y) := by
  subst h
  unfold page
  refine (shapeCast_dropUnit_apply ![16, 512] _ _ y).trans ?_
  rw [View.readAt_apply]
  refine congrArg v (funext fun a => Fin.ext ?_)
  match a with
  | ⟨0, _⟩ => rfl
  | ⟨1, _⟩ => show 16 * d.val + 1 * (y 0).val = 16 * d.val + (y 0).val; rw [Nat.one_mul]
  | ⟨2, _⟩ => show 0 + 1 * (y 1).val = (y 1).val; omega

theorem kept_apply (d : Dev nD) (y : S16x512.Idx) : page (kept X d) y = X d (rowAt d y) :=
  page_rows d (k0_off2_eq d) _ (X d) y

theorem got_apply (d : Dev nD) (i : Fin 31) (y : S16x512.Idx) : got X d i y = X (peer d (rev i)) (rowAt d y) := by
  refine page_rows d ?_ _ (X (peer d (rev i))) y
  rw [k0_off1_eq, ← peer_val, peer_rev]

theorem accOf_apply (d : Dev nD) (l : List (Fin 31)) (a : FVec Ideal S16x512 .f32) (y : S16x512.Idx) :
    l.foldl (fun a i => accPage a (got X d i)) a y = l.foldl (fun b i => b + X (peer d (rev i)) (rowAt d y)) (a y) := by
  induction l generalizing a with
  | nil => rfl
  | cons i l ih =>
    rw [List.foldl_cons, List.foldl_cons, ih]
    refine congrArg (fun b => l.foldl (fun b i => b + X (peer d (rev i)) (rowAt d y)) b) ?_
    show a y + got X d i y = _
    rw [got_apply]

/-- What a device computes is the sum of its rows over all devices. -/
theorem red_apply (d : Dev nD) (y : S16x512.Idx) : red X d y = ∑ e : Dev nD, X e (rowAt d y) := by
  unfold red narrow
  rw [shapeCast_id]
  show accOf X d peers y = _
  unfold accOf
  rw [accOf_apply]
  refine Eq.trans ?_ (fold_devices (fun e => X e (rowAt d y)) d)
  refine congrArg (fun b => peers.foldl (fun a i => a + X (peer d (rev i)) (rowAt d y)) b) ?_
  exact kept_apply X d y

/-! ### The reference -/

/-- The term that the reference's program computes. -/
abbrev refOut (x : FVec Ideal Cert.ReferenceIdeal.S32x512x512 .bf16) : FVec Ideal Cert.ReferenceIdeal.S512x512 .bf16 :=
  truncf .bf16 (Host.reduceAdd (extf .f32 x Cert.ReferenceIdeal.Facts₀.bitsLt_bf16_f32) (constant (F := Ideal) Cert.ReferenceIdeal.S_ .f32 0x00000000#32)
    Cert.ReferenceIdeal.Facts₀.reducesTo_S32x512x512_S512x512_d0 Cert.ReferenceIdeal.Facts₀.h_S_) Cert.ReferenceIdeal.Facts₀.bitsLt_bf16_f32

/-- The reference's result is the sum along the first dimension. -/
theorem refOut_apply (x : FVec Ideal Cert.ReferenceIdeal.S32x512x512 .bf16) (j : Cert.ReferenceIdeal.S512x512.Idx) :
    refOut x j = ∑ e : Fin 32, x (ix3 e (j 0) (j 1)) := by
  show Ideal.hostReduceAdd _ _ (Ideal.ofBits .f32 0x00000000#32) j = _
  rw [Ideal.hostReduceAdd_r3_a0, Ideal.ofBits_zero_f32, zero_add]
  rfl

/-- Where each device holds its block of the whole input, every device ends with the reference's result. -/
theorem out_eq (x : FVec Ideal Cert.ReferenceIdeal.S32x512x512 .bf16)
    (hX : ∀ c : Dev nD, X c = Layout.block ⟨3, ![1, 512, 512]⟩ ⟨3, ![32, 512, 512]⟩ 0 32 c x) : outAt X = refOut x := by
  funext j
  rw [refOut_apply]
  refine (red_apply X _ _).trans (Finset.sum_congr rfl fun e _ => ?_)
  rw [hX e, Layout.block_apply]
  refine congrArg x (funext fun a => Fin.ext ?_)
  rw [Layout.Tiles.idx_val]
  match a with
  | ⟨0, _⟩ => show e.val * 1 + 0 = e.val; omega
  | ⟨1, _⟩ => show 16 * ((j 0).val / 16) + (j 0).val % 16 = (j 0).val; omega
  | ⟨2, _⟩ => rfl

end Cert.TreeRed

end
-- ==== Proof.Same.lean ====
/-
# `Same`: the two readings of the kernel have one text

The kernel's program read on words and the program that is read over the extended reals are the same
program, so a run of the one is a run of the other.
-/
module

public import proofs.«01_k».proof.Proof.Gen.Kernel
public import proofs.«01_k».proof.Proof.Gen.KernelIdeal
public import Idealize.ShloMosaic.PureOps.BitExact

@[expose] public section

namespace Cert.TreeRed

open Idealize.ShloMosaic

set_option maxRecDepth 100000 in
/-- The kernels' body tables are the same. -/
theorem bodies_same : @Cert.Kernel.defs₀ Bits _ _ = @Cert.KernelIdeal.defs₀ Bits _ _ := by
  unfold Cert.Kernel.defs₀ Cert.KernelIdeal.defs₀
  refine congrArg (Defs.onTc (nD := Cert.Kernel.nD) (τ := Cert.Kernel.τ) (sig := Cert.Kernel.sig) (Val := Elt Bits) (Λ := Cert.Kernel.Λ₀)) ?_
  funext ℓ a
  match ℓ, a with
  | ⟨0, _⟩, (t, s) => exact rfl

/-- The whole body tables are the same. -/
theorem defs_same : @Cert.Kernel.defs Bits _ _ = @Cert.KernelIdeal.defs Bits _ _ := congrArg (Pipeline.defs Cert.Kernel.pcfgs) bodies_same

/-- The main programs are the same. -/
theorem main_same : Cert.Kernel.main (F := Bits) = Cert.KernelIdeal.main (F := Bits) := rfl

end Cert.TreeRed

end
-- ==== Proof.lean ====
/-
The proof of `Cert.Claim`: the three frames, `preserves`, and the value claim, put together from one run
of the kernel's program over any float values (`Proof/Final.lean`), the sum over the devices
(`Proof/Value.lean`), and the run of the reference.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Final
public import proofs.«01_k».proof.Proof.Value
public import proofs.«01_k».proof.Proof.Same
public import Idealize.ShloMosaic.Adequacy
public import Idealize.ShloMosaic.Init

@[expose] public section

noncomputable section

namespace Cert.Proof

open Idealize.ShloMosaic Idealize.SL.Sem Cert.Kernel

/-- The kernel's program, run on words, ends with its argument unchanged and every counter at zero. -/
theorem frame_kernel : Cert.quiescent_Kernel (hKernel := Cert.Kernel.Gen.facts) := fun m ρ _ => by
  rw [Cert.TreeRed.defs_same, Cert.TreeRed.main_same]
  exact (θ_run Cert.KernelIdeal.defs _ _).mono (fun _ h => ⟨fun c => (h.1 c).2, h.2⟩) (Cert.TreeRed.run_final (F := Bits) m ρ)

/-- So does the program over the extended reals, -/
theorem frame_ideal : Cert.quiescent_KernelIdeal (hKernelIdeal := Cert.KernelIdeal.Gen.facts) := fun m ρ _ =>
  (θ_run Cert.KernelIdeal.defs _ _).mono (fun _ h => ⟨fun c => (h.1 c).2, h.2⟩) (Cert.TreeRed.run_final (F := Ideal) m ρ)

/-- and so does the reference, which has no semaphore at all. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Every device of the kernel ends with the reference's sum. -/
theorem value : Cert.algebraic_KernelIdeal_ReferenceIdeal (hKernelIdeal := Cert.KernelIdeal.Gen.facts) (hReferenceIdeal := Cert.ReferenceIdeal.Gen.facts) :=
  fun m ρ m' ρ' _ hin =>
    ⟨Cert.TreeRed.refOut (m' (((0 : Dev Cert.ReferenceIdeal.nD).tc : Thread Cert.ReferenceIdeal.nD Cert.ReferenceIdeal.τ).loc Cert.ReferenceIdeal.main_arg0)),
      (θ_run Cert.KernelIdeal.defs _ _).mono
        (fun _ h c => ⟨(h.1 c).1.trans (Cert.TreeRed.out_eq _ _ fun d => (Cert.TreeRed.xIn_eq m d).trans (hin d)), (h.1 c).2⟩)
        (Cert.TreeRed.run_final (F := Ideal) m ρ),
      (θ_run Cert.ReferenceIdeal.defs _ _).mono (fun _ h => h 0) (Cert.ReferenceIdeal.Value.run (F := Ideal) m' ρ')⟩

/-- Everything that is claimed. -/
theorem claim : Cert.Claim := ⟨Cert.Kernel.Gen.facts, Cert.KernelIdeal.Gen.facts, Cert.ReferenceIdeal.Gen.facts,
  frame_kernel, frame_ideal, frame_reference, trivial, value⟩

end Cert.Proof

end
